-- ==== Defs.lean ====
def Pre_KernelIdeal (m : (ℓ : Loc Cert.KernelIdeal.nD Cert.KernelIdeal.τ Cert.KernelIdeal.sig) → Buf (Elt Ideal) ℓ) : Prop :=
  True

def Pre_KernelIdeal_nonzero_rows [hPre_nonzero_rows : Cert.Pre_nonzero_rows.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_rows [hPre_nonzero_rows : Cert.Pre_nonzero_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nonzero_rows [hKernelIdeal : Cert.KernelIdeal.Facts] [hPre_nonzero_rows : Cert.Pre_nonzero_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nonzero_rows [hReferenceIdeal : Cert.ReferenceIdeal.Facts] [hPre_nonzero_rows : Cert.Pre_nonzero_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal_pre_nonzero_rows [hKernelIdeal : Cert.KernelIdeal.Facts] [hReferenceIdeal : Cert.ReferenceIdeal.Facts] [hPre_nonzero_rows : Cert.Pre_nonzero_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_nonzero_rows : Cert.Pre_nonzero_rows.Facts),
    quiescent_KernelIdeal (hKernelIdeal := hKernelIdeal)
    ∧ quiescent_KernelIdeal_pre_nonzero_rows (hKernelIdeal := hKernelIdeal) (hPre_nonzero_rows := hPre_nonzero_rows)
    ∧ quiescent_ReferenceIdeal (hReferenceIdeal := hReferenceIdeal)
    ∧ quiescent_ReferenceIdeal_pre_nonzero_rows (hReferenceIdeal := hReferenceIdeal) (hPre_nonzero_rows := hPre_nonzero_rows)
    ∧ algebraic_KernelIdeal_ReferenceIdeal_pre_nonzero_rows (hKernelIdeal := hKernelIdeal) (hReferenceIdeal := hReferenceIdeal) (hPre_nonzero_rows := hPre_nonzero_rows)
-- ==== Pre_nonzero_rows.lean ====
abbrev S8x2048x32 : Shape := ⟨3, ![8, 2048, 32]⟩
abbrev S_ : Shape := ⟨0, ![]⟩
abbrev S8x2048 : Shape := ⟨2, ![8, 2048]⟩

class Facts : Prop where
  reducesTo_S8x2048x32_S8x2048_d2 : S8x2048x32.ReducesTo [2] S8x2048
  h_S_ : 0 < S_.numel
  bcast_S_S8x2048 : S_.BroadcastsInDim S8x2048 (![] : Fin 0 → Fin S8x2048.rank)

variable [Facts]

def fn {F : FTy → Type} [FloatOps F] (main_arg0 : FVec F S8x2048x32 .f32) (main_arg1 : FVec F S8x2048x32 .f32) (main_arg2 : FVec F S8x2048x32 .f32) (main_arg3 : FVec F S8x2048x32 .f32) : IVec S8x2048 1 :=
  let main_v0 : FVec F S8x2048x32 .f32 := mulf main_arg1 main_arg1
  let main_cst : FVec F S_ .f32 := constant S_ .f32 0x00000000#32
  let main_v1 : FVec F S8x2048 .f32 := (fun x v => Host.reduceAdd x v reducesTo_S8x2048x32_S8x2048_d2 h_S_) main_v0 main_cst
  let main_v2 : FVec F S8x2048x32 .f32 := mulf main_arg3 main_arg3
  let main_cst_0 : FVec F S_ .f32 := constant S_ .f32 0x00000000#32
  let main_v3 : FVec F S8x2048 .f32 := (fun x v => Host.reduceAdd x v reducesTo_S8x2048x32_S8x2048_d2 h_S_) main_v2 main_cst_0
  let main_cst_1 : FVec F S_ .f32 := constant S_ .f32 0x00000000#32
  let main_v4 : FVec F S8x2048 .f32 := broadcastInDim S8x2048 ![] bcast_S_S8x2048 main_cst_1
  let main_v5 : IVec S8x2048 1 := cmpf .ogt main_v1 main_v4
  let main_cst_2 : FVec F S_ .f32 := constant S_ .f32 0x00000000#32
  let main_v6 : FVec F S8x2048 .f32 := broadcastInDim S8x2048 ![] bcast_S_S8x2048 main_cst_2
  let main_v7 : IVec S8x2048 1 := cmpf .ogt main_v3 main_v6
  let main_v8 : IVec S8x2048 1 := andi main_v5 main_v7
  main_v8
-- ==== KernelIdeal.lean ====
abbrev S8x2048x32 : Shape := ⟨3, ![8, 2048, 32]⟩
abbrev S8x8x32 : Shape := ⟨3, ![8, 8, 32]⟩
abbrev S1x2048x32 : Shape := ⟨3, ![1, 2048, 32]⟩
abbrev S1x8x32 : Shape := ⟨3, ![1, 8, 32]⟩
abbrev S1x2048 : Shape := ⟨2, ![1, 2048]⟩
abbrev S2048x32 : Shape := ⟨2, ![2048, 32]⟩
abbrev S32x2048 : Shape := ⟨2, ![32, 2048]⟩
abbrev S8x2048 : Shape := ⟨2, ![8, 2048]⟩
abbrev S4x2048 : Shape := ⟨2, ![4, 2048]⟩
abbrev S2x2048 : Shape := ⟨2, ![2, 2048]⟩
abbrev S2048x2048 : Shape := ⟨2, ![2048, 2048]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩
abbrev S1x1x32 : Shape := ⟨3, ![1, 1, 32]⟩
abbrev S1x32 : Shape := ⟨2, ![1, 32]⟩
abbrev S32 : Shape := ⟨1, ![32]⟩

abbrev nBuf : Space → Nat
  | .hbm => 6
  | .vmem => 14
  | .smem => 0
  | _ => 0

abbrev bufTy : (tb : Table) → Fin (tcTables nBuf tb) → BufTy
  | .hbm, ⟨0, _⟩ => ⟨S8x2048x32, .f32⟩
  | .hbm, ⟨1, _⟩ => ⟨S8x2048x32, .f32⟩
  | .hbm, ⟨2, _⟩ => ⟨S8x2048x32, .f32⟩
  | .hbm, ⟨3, _⟩ => ⟨S8x2048x32, .f32⟩
  | .hbm, ⟨4, _⟩ => ⟨S8x8x32, .f32⟩
  | .hbm, ⟨5, _⟩ => ⟨S8x8x32, .f32⟩
  | .local _ .vmem, ⟨0, _⟩ => ⟨S1x2048x32, .f32⟩
  | .local _ .vmem, ⟨1, _⟩ => ⟨S1x2048x32, .f32⟩
  | .local _ .vmem, ⟨2, _⟩ => ⟨S1x2048x32, .f32⟩
  | .local _ .vmem, ⟨3, _⟩ => ⟨S1x2048x32, .f32⟩
  | .local _ .vmem, ⟨4, _⟩ => ⟨S1x2048x32, .f32⟩
  | .local _ .vmem, ⟨5, _⟩ => ⟨S1x2048x32, .f32⟩
  | .local _ .vmem, ⟨6, _⟩ => ⟨S1x2048x32, .f32⟩
  | .local _ .vmem, ⟨7, _⟩ => ⟨S1x2048x32, .f32⟩
  | .local _ .vmem, ⟨8, _⟩ => ⟨S1x8x32, .f32⟩
  | .local _ .vmem, ⟨9, _⟩ => ⟨S1x8x32, .f32⟩
  | .local _ .vmem, ⟨10, _⟩ => ⟨S1x8x32, .f32⟩
  | .local _ .vmem, ⟨11, _⟩ => ⟨S1x8x32, .f32⟩
  | .local _ .vmem, ⟨12, _⟩ => ⟨S1x2048, .f32⟩
  | .local _ .vmem, ⟨13, _⟩ => ⟨S1x2048, .f32⟩
  | _, _ => ⟨S8x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def k0_off1 (v6255 : BitVec 32) : Fin 3 → Nat :=
  let c0_18 : Index := 0#32
  let v6256 : Index := Scalar.indexCast v6255
  let c0_19 : Index := 0#32
  ![0, v6256.toNat, 0]

def k0_chk1 (v6255 : BitVec 32) : Prop :=
  (∀ a, (k0_off1 v6255) a + S1x1x32.size a ≤ S1x2048x32.size a)
theorem k0_off1_inb : ∀ (v6255 : BitVec 32) (k0_hw1 : k0_chk1 v6255), ∀ a, (k0_off1 v6255) a + S1x1x32.size a ≤ S1x2048x32.size a := fun v6255 k0_hw1 => k0_hw1

def k0_off2 (v6278 : BitVec 32) : Fin 3 → Nat :=
  let c0_27 : Index := 0#32
  let v6279 : Index := Scalar.indexCast v6278
  let c0_28 : Index := 0#32
  ![0, v6279.toNat, 0]

def k0_chk2 (v6278 : BitVec 32) : Prop :=
  (∀ a, (k0_off2 v6278) a + S1x1x32.size a ≤ S1x2048x32.size a)
theorem k0_off2_inb : ∀ (v6278 : BitVec 32) (k0_hw2 : k0_chk2 v6278), ∀ a, (k0_off2 v6278) a + S1x1x32.size a ≤ S1x2048x32.size a := fun v6278 k0_hw2 => k0_hw2

def k0_off3 (v6301 : BitVec 32) : Fin 3 → Nat :=
  let c0_35 : Index := 0#32
  let v6302 : Index := Scalar.indexCast v6301
  let c0_36 : Index := 0#32
  ![0, v6302.toNat, 0]

def k0_chk3 (v6301 : BitVec 32) : Prop :=
  (∀ a, (k0_off3 v6301) a + S1x1x32.size a ≤ S1x2048x32.size a)
theorem k0_off3_inb : ∀ (v6301 : BitVec 32) (k0_hw3 : k0_chk3 v6301), ∀ a, (k0_off3 v6301) a + S1x1x32.size a ≤ S1x2048x32.size a := fun v6301 k0_hw3 => k0_hw3

def k0_off4 (v6324 : BitVec 32) : Fin 3 → Nat :=
  let c0_43 : Index := 0#32
  let v6325 : Index := Scalar.indexCast v6324
  let c0_44 : Index := 0#32
  ![0, v6325.toNat, 0]

def k0_chk4 (v6324 : BitVec 32) : Prop :=
  (∀ a, (k0_off4 v6324) a + S1x1x32.size a ≤ S1x2048x32.size a)
theorem k0_off4_inb : ∀ (v6324 : BitVec 32) (k0_hw4 : k0_chk4 v6324), ∀ a, (k0_off4 v6324) a + S1x1x32.size a ≤ S1x2048x32.size a := fun v6324 k0_hw4 => k0_hw4

def k0_off5 (v6347 : BitVec 32) : Fin 3 → Nat :=
  let c0_51 : Index := 0#32
  let v6348 : Index := Scalar.indexCast v6347
  let c0_52 : Index := 0#32
  ![0, v6348.toNat, 0]

def k0_chk5 (v6347 : BitVec 32) : Prop :=
  (∀ a, (k0_off5 v6347) a + S1x1x32.size a ≤ S1x2048x32.size a)
theorem k0_off5_inb : ∀ (v6347 : BitVec 32) (k0_hw5 : k0_chk5 v6347), ∀ a, (k0_off5 v6347) a + S1x1x32.size a ≤ S1x2048x32.size a := fun v6347 k0_hw5 => k0_hw5

def k0_off6 (v6370 : BitVec 32) : Fin 3 → Nat :=
  let c0_59 : Index := 0#32
  let v6371 : Index := Scalar.indexCast v6370
  let c0_60 : Index := 0#32
  ![0, v6371.toNat, 0]

def k0_chk6 (v6370 : BitVec 32) : Prop :=
  (∀ a, (k0_off6 v6370) a + S1x1x32.size a ≤ S1x2048x32.size a)
theorem k0_off6_inb : ∀ (v6370 : BitVec 32) (k0_hw6 : k0_chk6 v6370), ∀ a, (k0_off6 v6370) a + S1x1x32.size a ≤ S1x2048x32.size a := fun v6370 k0_hw6 => k0_hw6

def k0_off7 (v6393 : BitVec 32) : Fin 3 → Nat :=
  let c0_67 : Index := 0#32
  let v6394 : Index := Scalar.indexCast v6393
  let c0_68 : Index := 0#32
  ![0, v6394.toNat, 0]

def k0_chk7 (v6393 : BitVec 32) : Prop :=
  (∀ a, (k0_off7 v6393) a + S1x1x32.size a ≤ S1x2048x32.size a)
theorem k0_off7_inb : ∀ (v6393 : BitVec 32) (k0_hw7 : k0_chk7 v6393), ∀ a, (k0_off7 v6393) a + S1x1x32.size a ≤ S1x2048x32.size a := fun v6393 k0_hw7 => k0_hw7

def k0_off8 (v6416 : BitVec 32) : Fin 3 → Nat :=
  let c0_75 : Index := 0#32
  let v6417 : Index := Scalar.indexCast v6416
  let c0_76 : Index := 0#32
  ![0, v6417.toNat, 0]

def k0_chk8 (v6416 : BitVec 32) : Prop :=
  (∀ a, (k0_off8 v6416) a + S1x1x32.size a ≤ S1x2048x32.size a)
theorem k0_off8_inb : ∀ (v6416 : BitVec 32) (k0_hw8 : k0_chk8 v6416), ∀ a, (k0_off8 v6416) a + S1x1x32.size a ≤ S1x2048x32.size a := fun v6416 k0_hw8 => k0_hw8

def k0_off9 (v6438 : BitVec 32) : Fin 3 → Nat :=
  let c0_84 : Index := 0#32
  let v6439 : Index := Scalar.indexCast v6438
  let c0_85 : Index := 0#32
  ![0, v6439.toNat, 0]

def k0_chk9 (v6438 : BitVec 32) : Prop :=
  (∀ a, (k0_off9 v6438) a + S1x1x32.size a ≤ S1x2048x32.size a)
theorem k0_off9_inb : ∀ (v6438 : BitVec 32) (k0_hw9 : k0_chk9 v6438), ∀ a, (k0_off9 v6438) a + S1x1x32.size a ≤ S1x2048x32.size a := fun v6438 k0_hw9 => k0_hw9

def k0_off10 (v6461 : BitVec 32) : Fin 3 → Nat :=
  let c0_93 : Index := 0#32
  let v6462 : Index := Scalar.indexCast v6461
  let c0_94 : Index := 0#32
  ![0, v6462.toNat, 0]

def k0_chk10 (v6461 : BitVec 32) : Prop :=
  (∀ a, (k0_off10 v6461) a + S1x1x32.size a ≤ S1x2048x32.size a)
theorem k0_off10_inb : ∀ (v6461 : BitVec 32) (k0_hw10 : k0_chk10 v6461), ∀ a, (k0_off10 v6461) a + S1x1x32.size a ≤ S1x2048x32.size a := fun v6461 k0_hw10 => k0_hw10

def k0_off11 (v6484 : BitVec 32) : Fin 3 → Nat :=
  let c0_102 : Index := 0#32
  let v6485 : Index := Scalar.indexCast v6484
  let c0_103 : Index := 0#32
  ![0, v6485.toNat, 0]

def k0_chk11 (v6484 : BitVec 32) : Prop :=
  (∀ a, (k0_off11 v6484) a + S1x1x32.size a ≤ S1x2048x32.size a)
theorem k0_off11_inb : ∀ (v6484 : BitVec 32) (k0_hw11 : k0_chk11 v6484), ∀ a, (k0_off11 v6484) a + S1x1x32.size a ≤ S1x2048x32.size a := fun v6484 k0_hw11 => k0_hw11

def k0_off12 (v6507 : BitVec 32) : Fin 3 → Nat :=
  let c0_111 : Index := 0#32
  let v6508 : Index := Scalar.indexCast v6507
  let c0_112 : Index := 0#32
  ![0, v6508.toNat, 0]

def k0_chk12 (v6507 : BitVec 32) : Prop :=
  (∀ a, (k0_off12 v6507) a + S1x1x32.size a ≤ S1x2048x32.size a)
theorem k0_off12_inb : ∀ (v6507 : BitVec 32) (k0_hw12 : k0_chk12 v6507), ∀ a, (k0_off12 v6507) a + S1x1x32.size a ≤ S1x2048x32.size a := fun v6507 k0_hw12 => k0_hw12

def k0_off13 (v6530 : BitVec 32) : Fin 3 → Nat :=
  let c0_120 : Index := 0#32
  let v6531 : Index := Scalar.indexCast v6530
  let c0_121 : Index := 0#32
  ![0, v6531.toNat, 0]

def k0_chk13 (v6530 : BitVec 32) : Prop :=
  (∀ a, (k0_off13 v6530) a + S1x1x32.size a ≤ S1x2048x32.size a)
theorem k0_off13_inb : ∀ (v6530 : BitVec 32) (k0_hw13 : k0_chk13 v6530), ∀ a, (k0_off13 v6530) a + S1x1x32.size a ≤ S1x2048x32.size a := fun v6530 k0_hw13 => k0_hw13

def k0_off14 (v6553 : BitVec 32) : Fin 3 → Nat :=
  let c0_129 : Index := 0#32
  let v6554 : Index := Scalar.indexCast v6553
  let c0_130 : Index := 0#32
  ![0, v6554.toNat, 0]

def k0_chk14 (v6553 : BitVec 32) : Prop :=
  (∀ a, (k0_off14 v6553) a + S1x1x32.size a ≤ S1x2048x32.size a)
theorem k0_off14_inb : ∀ (v6553 : BitVec 32) (k0_hw14 : k0_chk14 v6553), ∀ a, (k0_off14 v6553) a + S1x1x32.size a ≤ S1x2048x32.size a := fun v6553 k0_hw14 => k0_hw14

def k0_off15 (v6576 : BitVec 32) : Fin 3 → Nat :=
  let c0_138 : Index := 0#32
  let v6577 : Index := Scalar.indexCast v6576
  let c0_139 : Index := 0#32
  ![0, v6577.toNat, 0]

def k0_chk15 (v6576 : BitVec 32) : Prop :=
  (∀ a, (k0_off15 v6576) a + S1x1x32.size a ≤ S1x2048x32.size a)
theorem k0_off15_inb : ∀ (v6576 : BitVec 32) (k0_hw15 : k0_chk15 v6576), ∀ a, (k0_off15 v6576) a + S1x1x32.size a ≤ S1x2048x32.size a := fun v6576 k0_hw15 => k0_hw15

def k0_off16 (v6599 : BitVec 32) : Fin 3 → Nat :=
  let c0_147 : Index := 0#32
  let v6600 : Index := Scalar.indexCast v6599
  let c0_148 : Index := 0#32
  ![0, v6600.toNat, 0]

def k0_chk16 (v6599 : BitVec 32) : Prop :=
  (∀ a, (k0_off16 v6599) a + S1x1x32.size a ≤ S1x2048x32.size a)
theorem k0_off16_inb : ∀ (v6599 : BitVec 32) (k0_hw16 : k0_chk16 v6599), ∀ a, (k0_off16 v6599) a + S1x1x32.size a ≤ S1x2048x32.size a := fun v6599 k0_hw16 => k0_hw16

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x2048x32 : Shape := ⟨3, ![8, 2048, 32]⟩
abbrev S_ : Shape := ⟨0, ![]⟩
abbrev S8x2048 : Shape := ⟨2, ![8, 2048]⟩
abbrev S8x2048x1 : Shape := ⟨3, ![8, 2048, 1]⟩
abbrev S8x32x2048 : Shape := ⟨3, ![8, 32, 2048]⟩
abbrev S8x2048x2048 : Shape := ⟨3, ![8, 2048, 2048]⟩
abbrev S8x8 : Shape := ⟨2, ![8, 8]⟩
abbrev S8x8x1 : Shape := ⟨3, ![8, 8, 1]⟩
abbrev S8x8x32 : Shape := ⟨3, ![8, 8, 32]⟩
abbrev S8x8x32x1 : Shape := ⟨4, ![8, 8, 32, 1]⟩
abbrev S1 : Shape := ⟨1, ![1]⟩
abbrev S1x1x1x1 : Shape := ⟨4, ![1, 1, 1, 1]⟩

abbrev nBuf : Space → Nat
  | .hbm => 113
  | .vmem => 0
  | .smem => 0
  | _ => 0

abbrev bufTy : (tb : Table) → Fin (tcTables nBuf tb) → BufTy
  | .hbm, ⟨0, _⟩ => ⟨S8x2048x32, .f32⟩
  | .hbm, ⟨1, _⟩ => ⟨S8x2048x32, .f32⟩
  | .hbm, ⟨2, _⟩ => ⟨S8x2048x32, .f32⟩
  | .hbm, ⟨3, _⟩ => ⟨S8x2048x32, .f32⟩
  | .hbm, ⟨4, _⟩ => ⟨S8x2048x32, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S8x2048x1, .f32⟩
  | .hbm, ⟨9, _⟩ => ⟨S8x2048x32, .f32⟩
  | .hbm, ⟨10, _⟩ => ⟨S8x2048x32, .f32⟩
  | .hbm, ⟨11, _⟩ => ⟨S8x32x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048, .f32⟩
  | .hbm, ⟨33, _⟩ => ⟨S8x8, .f32⟩
  | .hbm, ⟨34, _⟩ => ⟨S8x8, .i32⟩
  | .hbm, ⟨35, _⟩ => ⟨S8x8x1, .i32⟩
  | .hbm, ⟨36, _⟩ => ⟨S8x8x32, .i32⟩
  | .hbm, ⟨37, _⟩ => ⟨S_, .i32⟩
  | .hbm, ⟨38, _⟩ => ⟨S8x8x32, .i32⟩
  | .hbm, ⟨39, _⟩ => ⟨S8x8x32, .i1⟩
  | .hbm, ⟨40, _⟩ => ⟨S_, .i32⟩
  | .hbm, ⟨41, _⟩ => ⟨S8x8x32, .i32⟩
  | .hbm, ⟨42, _⟩ => ⟨S8x8x32, .i32⟩
  | .hbm, ⟨43, _⟩ => ⟨S8x8x32, .i32⟩
  | .hbm, ⟨44, _⟩ => ⟨S8x8x32x1, .i32⟩
  | .hbm, ⟨45, _⟩ => ⟨S1, .i32⟩
  | .hbm, ⟨46, _⟩ => ⟨S_, .i32⟩
  | .hbm, ⟨47, _⟩ => ⟨S8x8x32x1, .i32⟩
  | .hbm, ⟨48, _⟩ => ⟨S8x8x32x1, .i1⟩
  | .hbm, ⟨49, _⟩ => ⟨S1x1x1x1, .i32⟩
  | .hbm, ⟨50, _⟩ => ⟨S8x8x32x1, .i32⟩
  | .hbm, ⟨51, _⟩ => ⟨S8x8x32x1, .i1⟩
  | .hbm, ⟨52, _⟩ => ⟨S8x8x32x1, .i1⟩
  | .hbm, ⟨53, _⟩ => ⟨S_, .i1⟩
  | .hbm, ⟨54, _⟩ => ⟨S8x8x32, .i1⟩
  | .hbm, ⟨55, _⟩ => ⟨S8x8x32, .f32⟩
  | .hbm, ⟨56, _⟩ => ⟨S_, .f32⟩
  | .hbm, ⟨57, _⟩ => ⟨S8x8x32, .f32⟩
  | .hbm, ⟨58, _⟩ => ⟨S8x8x32, .f32⟩
  | .hbm, ⟨59, _⟩ => ⟨S8x2048x32, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S8x2048x1, .f32⟩
  | .hbm, ⟨64, _⟩ => ⟨S8x2048x32, .f32⟩
  | .hbm, ⟨65, _⟩ => ⟨S8x2048x32, .f32⟩
  | .hbm, ⟨66, _⟩ => ⟨S8x32x2048, .f32⟩
  | .hbm, ⟨67, _⟩ => ⟨S8x2048x2048, .f32⟩
  | .hbm, ⟨68, _⟩ => ⟨S_, .f32⟩
  | .hbm, ⟨69, _⟩ => ⟨S8x2048, .f32⟩
  | .hbm, ⟨70, _⟩ => ⟨S_, .f32⟩
  | .hbm, ⟨71, _⟩ => ⟨S8x2048, .f32⟩
  | .hbm, ⟨72, _⟩ => ⟨S8x2048, .f32⟩
  | .hbm, ⟨73, _⟩ => ⟨S8x2048x1, .f32⟩
  | .hbm, ⟨74, _⟩ => ⟨S8x2048x2048, .f32⟩
  | .hbm, ⟨75, _⟩ => ⟨S8x2048x2048, .f32⟩
  | .hbm, ⟨76, _⟩ => ⟨S8x2048x2048, .f32⟩
  | .hbm, ⟨77, _⟩ => ⟨S_, .f32⟩
  | .hbm, ⟨78, _⟩ => ⟨S8x2048, .f32⟩
  | .hbm, ⟨79, _⟩ => ⟨S8x2048x1, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048, .f32⟩
  | .hbm, ⟨84, _⟩ => ⟨S_, .f32⟩
  | .hbm, ⟨85, _⟩ => ⟨S8x2048, .f32⟩
  | .hbm, ⟨86, _⟩ => ⟨S8x2048, .f32⟩
  | .hbm, ⟨87, _⟩ => ⟨S8x8, .f32⟩
  | .hbm, ⟨88, _⟩ => ⟨S8x8, .i32⟩
  | .hbm, ⟨89, _⟩ => ⟨S8x8x1, .i32⟩
  | .hbm, ⟨90, _⟩ => ⟨S8x8x32, .i32⟩
  | .hbm, ⟨91, _⟩ => ⟨S_, .i32⟩
  | .hbm, ⟨92, _⟩ => ⟨S8x8x32, .i32⟩
  | .hbm, ⟨93, _⟩ => ⟨S8x8x32, .i1⟩
  | .hbm, ⟨94, _⟩ => ⟨S_, .i32⟩
  | .hbm, ⟨95, _⟩ => ⟨S8x8x32, .i32⟩
  | .hbm, ⟨96, _⟩ => ⟨S8x8x32, .i32⟩
  | .hbm, ⟨97, _⟩ => ⟨S8x8x32, .i32⟩
  | .hbm, ⟨98, _⟩ => ⟨S8x8x32x1, .i32⟩
  | .hbm, ⟨99, _⟩ => ⟨S1, .i32⟩
  | .hbm, ⟨100, _⟩ => ⟨S_, .i32⟩
  | .hbm, ⟨101, _⟩ => ⟨S8x8x32x1, .i32⟩
  | .hbm, ⟨102, _⟩ => ⟨S8x8x32x1, .i1⟩
  | .hbm, ⟨103, _⟩ => ⟨S1x1x1x1, .i32⟩
  | .hbm, ⟨104, _⟩ => ⟨S8x8x32x1, .i32⟩
  | .hbm, ⟨105, _⟩ => ⟨S8x8x32x1, .i1⟩
  | .hbm, ⟨106, _⟩ => ⟨S8x8x32x1, .i1⟩
  | .hbm, ⟨107, _⟩ => ⟨S_, .i1⟩
  | .hbm, ⟨108, _⟩ => ⟨S8x8x32, .i1⟩
  | .hbm, ⟨109, _⟩ => ⟨S8x8x32, .f32⟩
  | .hbm, ⟨110, _⟩ => ⟨S_, .f32⟩
  | .hbm, ⟨111, _⟩ => ⟨S8x8x32, .f32⟩
  | .hbm, ⟨112, _⟩ => ⟨S8x8x32, .f32⟩
  | _, _ => ⟨S8x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_values : Ref sig .tc := ⟨.hbm, 33, rfl⟩
abbrev main_indices : Ref sig .tc := ⟨.hbm, 34, rfl⟩
abbrev main_v20 : Ref sig .tc := ⟨.hbm, 35, rfl⟩
abbrev main_v21 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v22 : Ref sig .tc := ⟨.hbm, 58, rfl⟩
abbrev main_call2_v0 : Ref sig .tc := ⟨.hbm, 59, rfl⟩
abbrev main_call2_cst : Ref sig .tc := ⟨.hbm, 60, rfl⟩
abbrev main_call2_v1 : Ref sig .tc := ⟨.hbm, 61, rfl⟩
abbrev main_call2_v2 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_4 : Ref sig .tc := ⟨.hbm, 68, rfl⟩
abbrev main_v28 : Ref sig .tc := ⟨.hbm, 69, rfl⟩
abbrev main_cst_5 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_6 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_7 : Ref sig .tc := ⟨.hbm, 82, rfl⟩
abbrev main_v39 : Ref sig .tc := ⟨.hbm, 83, rfl⟩
abbrev main_cst_8 : Ref sig .tc := ⟨.hbm, 84, rfl⟩
abbrev main_v40 : Ref sig .tc := ⟨.hbm, 85, rfl⟩
abbrev main_v41 : Ref sig .tc := ⟨.hbm, 86, rfl⟩
abbrev main_values_9 : Ref sig .tc := ⟨.hbm, 87, rfl⟩
abbrev main_indices_10 : Ref sig .tc := ⟨.hbm, 88, rfl⟩
abbrev main_v42 : Ref sig .tc := ⟨.hbm, 89, rfl⟩
abbrev main_v43 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_cst : Ref sig .tc := ⟨.hbm, 110, rfl⟩
abbrev main_call3_v14 : Ref sig .tc := ⟨.hbm, 111, rfl⟩
abbrev main_v44 : Ref sig .tc := ⟨.hbm, 112, rfl⟩

abbrev nD : Nat := 1
abbrev τ : Topo := Topo.v7x

variable {F : FTy → Type} [FloatOps F]
-- ==== Proof.Pick.lean ====
/-
  One round of the kernel's selection, in exact arithmetic: from a row of 2048 means the extreme one is found, then the
  first position that holds it, and that position is overwritten before the next round. Stated here once for the eight
  rounds of the smallest means and the eight rounds of the greatest.
-/
module

public import proofs.«01_k».proof.Proof.Gen.KernelIdeal.Skeleton
public import Idealize.ShloMosaic.PureOps.Ideal
public import Idealize.ShloMosaic.PureOps.Reduce
public import Idealize.ShloMosaic.PureOps.Ideal.Laws
public import Idealize.ShloMosaic.Lib.ValueIdx

@[expose] public section

noncomputable section

namespace Cert.Proof.Pick

open Cert.KernelIdeal Cert.KernelIdeal.Gen
open Idealize.ShloMosaic Idealize.ShloMosaic.ValueIdx

/-- The positions 0 .. 2047 of a row. -/
abbrev positions : IVec S1x2048 32 := iota .tc S1x2048 32 [1] iota_S1x2048_d1_w32

/-- The smallest entry of a row, as the kernel reduces it. -/
def lowest (m : FVec Ideal S1x2048 .f32) : Ideal .f32 :=
  extractAt ![0, 0, 0] (shapeCast S1x1x1 (multiReduction .minimumf [1, 2] S1
    (shapeCast S1x1x2048 m shapeCasts_S1x2048_S1x1x2048) 0x7F800000#32 reduces_S1x1x2048_S1 (.inl rfl) rfl) shapeCasts_S1_S1x1x1)
    inpos_S1x1x1_p0_0_0

/-- The greatest entry of a row, as the kernel reduces it. -/
def highest (m : FVec Ideal S1x2048 .f32) : Ideal .f32 :=
  extractAt ![0, 0, 0] (shapeCast S1x1x1 (multiReduction .maximumf [1, 2] S1
    (shapeCast S1x1x2048 m shapeCasts_S1x2048_S1x1x2048) 0xFF800000#32 reduces_S1x1x2048_S1 (.inl rfl) rfl) shapeCasts_S1_S1x1x1)
    inpos_S1x1x1_p0_0_0

/-- The first position of a row that compares equal to `v` (2048 if none does), as the kernel computes it. -/
def firstAt (m : FVec Ideal S1x2048 .f32) (v : Ideal .f32) : BitVec 32 :=
  extractAt ![0, 0, 0] (shapeCast S1x1x1 (multiReductionI .minsi [1, 2] S1
    (shapeCast S1x1x2048 (select (cmpf .oeq m (broadcast S1x2048 v)) positions (broadcast S1x2048 2048#32))
      shapeCasts_S1x2048_S1x1x2048) 2147483647#32 reduces_S1x1x2048_S1 rfl) shapeCasts_S1_S1x1x1)
    inpos_S1x1x1_p0_0_0

/-- A row with the entry at position `w` overwritten by `v`. -/
def masked (v : Ideal .f32) (m : FVec Ideal S1x2048 .f32) (w : BitVec 32) : FVec Ideal S1x2048 .f32 :=
  select (cmpi .eq positions (broadcast S1x2048 w)) (broadcast S1x2048 v) m

/-! ## Folds over a finite set -/

/-- A fold of the signed minimum is at most every word met and is one of them or the start. -/
theorem fold_minsi_spec {ι : Type} [DecidableEq ι] (g : ι → BitVec 32) (s : Finset ι) (z : BitVec 32) :
    (∀ i ∈ s, (s.fold IntOp.minsi z g).toInt ≤ (g i).toInt) ∧
      (s.fold IntOp.minsi z g = z ∨ ∃ i ∈ s, s.fold IntOp.minsi z g = g i) := by
  refine Finset.induction_on s ⟨by simp, by simp⟩ ?_
  intro a s has ih
  obtain ⟨h1, h2⟩ := ih
  rw [Finset.fold_insert has]
  have hc : IntOp.minsi (g a) (s.fold IntOp.minsi z g) = if (g a).toInt < (s.fold IntOp.minsi z g).toInt then g a else s.fold IntOp.minsi z g := by
    unfold IntOp.minsi
    simp [BitVec.slt, BitVec.sle]
  rw [hc]
  refine ⟨fun i hi => ?_, ?_⟩
  · rcases Finset.mem_insert.mp hi with rfl | hi
    · split <;> omega
    · have := h1 i hi
      split <;> omega
  · split
    · exact Or.inr ⟨a, Finset.mem_insert_self _ _, rfl⟩
    · rcases h2 with h | ⟨i, hi, h⟩
      · exact Or.inl h
      · exact Or.inr ⟨i, Finset.mem_insert_of_mem hi, h⟩

/-- A fold of the minimum from +∞ over a nonempty finite type is a lower bound that is attained. -/
theorem fold_min_spec {ι : Type} [Fintype ι] [Nonempty ι] (g : ι → EReal) :
    (∀ i, (Finset.univ : Finset ι).fold min ⊤ g ≤ g i) ∧ ∃ i, g i = (Finset.univ : Finset ι).fold min ⊤ g := by
  have e : (Finset.univ : Finset ι).fold min ⊤ g = Finset.univ.inf g := rfl
  rw [e]
  refine ⟨fun i => Finset.inf_le (Finset.mem_univ i), ?_⟩
  obtain ⟨i, -, h⟩ := Finset.exists_mem_eq_inf (Finset.univ : Finset ι) Finset.univ_nonempty g
  exact ⟨i, h.symm⟩

/-- A fold of the maximum from −∞ over a nonempty finite type is an upper bound that is attained. -/
theorem fold_max_spec {ι : Type} [Fintype ι] [Nonempty ι] (g : ι → EReal) :
    (∀ i, g i ≤ (Finset.univ : Finset ι).fold max ⊥ g) ∧ ∃ i, g i = (Finset.univ : Finset ι).fold max ⊥ g := by
  have e : (Finset.univ : Finset ι).fold max ⊥ g = Finset.univ.sup g := rfl
  rw [e]
  refine ⟨fun i => Finset.le_sup (Finset.mem_univ i), ?_⟩
  obtain ⟨i, -, h⟩ := Finset.exists_mem_eq_sup (Finset.univ : Finset ι) Finset.univ_nonempty g
  exact ⟨i, h.symm⟩

/-! ## A round -/

/-- The one-element result's index set has one element, so every source index is in the fiber. -/
theorem fiber_univ (j : S1.Idx) : (Finset.univ.filter fun i : S1x1x2048.Idx => reduces_S1x1x2048_S1.drop i = j) = Finset.univ := by
  refine Finset.filter_true_of_mem fun i _ => ?_
  funext a
  have ha : a = 0 := Fin.ext (by have := a.isLt; change a.val < 1 at this; change a.val = 0; omega)
  subst ha
  exact Fin.ext (by have h1 := (reduces_S1x1x2048_S1.drop i 0).isLt; have h2 := (j 0).isLt
                    change _ < 1 at h1; change _ < 1 at h2; omega)

instance : Nonempty S1x1x2048.Idx := ⟨ix3 0 0 0⟩

/-- Every position of the row is read by the reshape to three axes. -/
theorem reshape_surj (k : Fin 2048) : ∃ i : S1x1x2048.Idx, Shape.reshapeEquiv shapeCasts_S1x2048_S1x1x2048 i = ix2 0 k :=
  (Shape.reshapeEquiv shapeCasts_S1x2048_S1x1x2048).surjective _

/-- An index of the row is row 0 and a position. -/
theorem eq_ix2 (y : S1x2048.Idx) : ∃ k : Fin 2048, y = ix2 0 k := by
  refine ⟨y 1, ?_⟩
  funext a
  match a with
  | ⟨0, _⟩ => exact Fin.ext (by have h := (y 0).isLt; change _ < 1 at h; change (y 0).val = 0; omega)
  | ⟨1, _⟩ => rfl

/-- The smallest entry is at most every entry and is one of them. -/
theorem lowest_spec (m : FVec Ideal S1x2048 .f32) :
    (∀ k : Fin 2048, lowest m ≤ m (ix2 0 k)) ∧ ∃ k : Fin 2048, m (ix2 0 k) = lowest m := by
  have e : lowest m = (Finset.univ : Finset S1x1x2048.Idx).fold min ⊤ (shapeCast S1x1x2048 m shapeCasts_S1x2048_S1x1x2048) := by
    refine (multiReduction_minimumf_eq_fold _ _ _ (.inl rfl) rfl _).trans ?_
    rw [fiber_univ]
    rfl
  obtain ⟨h1, i, h2⟩ := fold_min_spec (shapeCast S1x1x2048 m shapeCasts_S1x2048_S1x1x2048)
  rw [← e] at h1 h2
  refine ⟨fun k => ?_, ?_⟩
  · obtain ⟨i, hi⟩ := reshape_surj k
    have := h1 i
    unfold shapeCast at this
    rwa [hi] at this
  · obtain ⟨k, hk⟩ := eq_ix2 (Shape.reshapeEquiv shapeCasts_S1x2048_S1x1x2048 i)
    refine ⟨k, ?_⟩
    rw [← hk]; exact h2

/-- The greatest entry is at least every entry and is one of them. -/
theorem highest_spec (m : FVec Ideal S1x2048 .f32) :
    (∀ k : Fin 2048, m (ix2 0 k) ≤ highest m) ∧ ∃ k : Fin 2048, m (ix2 0 k) = highest m := by
  have e : highest m = (Finset.univ : Finset S1x1x2048.Idx).fold max ⊥ (shapeCast S1x1x2048 m shapeCasts_S1x2048_S1x1x2048) := by
    refine (multiReduction_maximumf_eq_fold _ _ _ (.inl rfl) rfl _).trans ?_
    rw [fiber_univ]
    rfl
  obtain ⟨h1, i, h2⟩ := fold_max_spec (shapeCast S1x1x2048 m shapeCasts_S1x2048_S1x1x2048)
  rw [← e] at h1 h2
  refine ⟨fun k => ?_, ?_⟩
  · obtain ⟨i, hi⟩ := reshape_surj k
    have := h1 i
    unfold shapeCast at this
    rwa [hi] at this
  · obtain ⟨k, hk⟩ := eq_ix2 (Shape.reshapeEquiv shapeCasts_S1x2048_S1x1x2048 i)
    refine ⟨k, ?_⟩
    rw [← hk]; exact h2

/-- The word of a position and the position itself. -/
theorem positions_apply (k : Fin 2048) : positions (ix2 0 k) = BitVec.ofNat 32 k.val := by
  simp [positions, iota, ix2]

theorem toInt_ofNat_pos (k : Fin 2048) : (BitVec.ofNat 32 k.val).toInt = k.val := by
  have := k.isLt
  rw [BitVec.toInt_eq_toNat_cond, BitVec.toNat_ofNat]
  omega

/-- What the selection compares at a position. -/
theorem hit_apply (m : FVec Ideal S1x2048 .f32) (v : Ideal .f32) (k : Fin 2048) :
    (select (cmpf .oeq m (broadcast S1x2048 v)) positions (broadcast S1x2048 2048#32)) (ix2 0 k)
      = if m (ix2 0 k) = v then BitVec.ofNat 32 k.val else 2048#32 := by
  rw [← positions_apply k]
  show Scalar.select (FloatOps.cmpf .oeq (m (ix2 0 k)) v) _ _ = _
  rw [Ideal.cmpf_def]
  by_cases h : m (ix2 0 k) = v
  · simp [h, Ideal.cmp, Scalar.select]
  · simp [h, Ideal.cmp, Scalar.select, broadcast]

/-- If some entry of the row is `v`, the word found is the first such position. -/
theorem firstAt_spec (m : FVec Ideal S1x2048 .f32) (v : Ideal .f32) (h : ∃ k : Fin 2048, m (ix2 0 k) = v) :
    ∃ k : Fin 2048, firstAt m v = BitVec.ofNat 32 k.val ∧ m (ix2 0 k) = v ∧ ∀ j : Fin 2048, m (ix2 0 j) = v → k ≤ j := by
  set g := shapeCast S1x1x2048 (select (cmpf .oeq m (broadcast S1x2048 v)) positions (broadcast S1x2048 2048#32))
    shapeCasts_S1x2048_S1x1x2048 with hg
  have e : firstAt m v = (Finset.univ : Finset S1x1x2048.Idx).fold IntOp.minsi 2147483647#32 g := by
    refine (multiReductionI_eq_fold .minsi g 2147483647#32 reduces_S1x1x2048_S1 rfl _).trans ?_
    rw [fiber_univ]
    rfl
  obtain ⟨h1, h2⟩ := fold_minsi_spec g Finset.univ 2147483647#32
  rw [← e] at h1 h2
  have hv : ∀ k : Fin 2048, ∃ i, g i = if m (ix2 0 k) = v then BitVec.ofNat 32 k.val else 2048#32 := fun k => by
    obtain ⟨i, hi⟩ := reshape_surj k
    refine ⟨i, ?_⟩
    rw [← hit_apply, hg]; unfold shapeCast; rw [hi]
  have hle : ∀ j : Fin 2048, m (ix2 0 j) = v → (firstAt m v).toInt ≤ j.val := fun j hj => by
    obtain ⟨i, hi⟩ := hv j
    rw [if_pos hj] at hi
    have := h1 i (Finset.mem_univ i)
    rwa [hi, toInt_ofNat_pos] at this
  obtain ⟨k0, hk0⟩ := h
  have h0 := hle k0 hk0
  have hk0' := k0.isLt
  rcases h2 with h2 | ⟨i, -, h2⟩
  · rw [h2] at h0
    have : (2147483647#32).toInt = 2147483647 := by decide
    omega
  · obtain ⟨k, hk⟩ := eq_ix2 (Shape.reshapeEquiv shapeCasts_S1x2048_S1x1x2048 i)
    have hgi : g i = if m (ix2 0 k) = v then BitVec.ofNat 32 k.val else 2048#32 := by
      rw [← hit_apply, hg]; unfold shapeCast; rw [hk]
    rw [hgi] at h2
    by_cases hm : m (ix2 0 k) = v
    · rw [if_pos hm] at h2
      refine ⟨k, h2, hm, fun j hj => ?_⟩
      have := hle j hj
      rw [h2, toInt_ofNat_pos] at this
      exact Fin.le_def.mpr (by omega)
    · rw [if_neg hm] at h2
      rw [h2] at h0
      have : (2048#32).toInt = 2048 := by decide
      omega

/-- The word of the smallest entry is the first position of a least entry. -/
theorem least_spec (m : FVec Ideal S1x2048 .f32) : ∃ k : Fin 2048, firstAt m (lowest m) = BitVec.ofNat 32 k.val
    ∧ (∀ j : Fin 2048, m (ix2 0 k) ≤ m (ix2 0 j)) ∧ ∀ j : Fin 2048, m (ix2 0 j) = m (ix2 0 k) → k ≤ j := by
  obtain ⟨hl, ha⟩ := lowest_spec m
  obtain ⟨k, h1, h2, h3⟩ := firstAt_spec m (lowest m) ha
  exact ⟨k, h1, fun j => h2 ▸ hl j, fun j hj => h3 j (hj.trans h2)⟩

/-- The word of the greatest entry is the first position of a greatest entry. -/
theorem greatest_spec (m : FVec Ideal S1x2048 .f32) : ∃ k : Fin 2048, firstAt m (highest m) = BitVec.ofNat 32 k.val
    ∧ (∀ j : Fin 2048, m (ix2 0 j) ≤ m (ix2 0 k)) ∧ ∀ j : Fin 2048, m (ix2 0 j) = m (ix2 0 k) → k ≤ j := by
  obtain ⟨hl, ha⟩ := highest_spec m
  obtain ⟨k, h1, h2, h3⟩ := firstAt_spec m (highest m) ha
  exact ⟨k, h1, fun j => h2 ▸ hl j, fun j hj => h3 j (hj.trans h2)⟩

/-- A masked row at a position: the mask's value at the masked position, the row's elsewhere. -/
theorem masked_apply (v : Ideal .f32) (m : FVec Ideal S1x2048 .f32) (k j : Fin 2048) :
    masked v m (BitVec.ofNat 32 k.val) (ix2 0 j) = if j = k then v else m (ix2 0 j) := by
  show Scalar.select (IntOp.cmpi .eq (positions (ix2 0 j)) (BitVec.ofNat 32 k.val)) v (m (ix2 0 j)) = _
  rw [positions_apply]
  have hk := k.isLt
  have hj := j.isLt
  by_cases h : j = k
  · subst h; simp [IntOp.cmpi, Scalar.select]
  · have : BitVec.ofNat 32 j.val ≠ BitVec.ofNat 32 k.val := fun e => h (Fin.ext (by
      have := congrArg BitVec.toNat e
      simp only [BitVec.toNat_ofNat] at this; omega))
    have hb : (BitVec.ofNat 32 j.val == BitVec.ofNat 32 k.val) = false := beq_eq_false_iff_ne.mpr this
    simp [IntOp.cmpi, Scalar.select, h, hb]

/-! ## The row a word names lies in the block -/

/-- A row number below 2048 names a row inside the block of 2048 rows. -/
theorem inside_of_lt (w : BitVec 32) (h : w.toNat < 2048) :
    ∀ a, (![0, (Scalar.indexCast w).toNat, 0] : Fin 3 → Nat) a + S1x1x32.size a ≤ S1x2048x32.size a := by
  have e : (Scalar.indexCast w).toNat = w.toNat := by
    have : w.toInt = w.toNat := by rw [BitVec.toInt_eq_toNat_cond]; omega
    simp [Scalar.indexCast, this]
  intro a
  rw [e]
  match a with
  | ⟨0, _⟩ => show 0 + 1 ≤ 1; omega
  | ⟨1, _⟩ => show w.toNat + 1 ≤ 2048; omega
  | ⟨2, _⟩ => show 0 + 32 ≤ 32; omega

theorem toNat_ofNat_pos (k : Fin 2048) : (BitVec.ofNat 32 k.val).toNat = k.val := by
  have := k.isLt
  rw [BitVec.toNat_ofNat]; omega

/-- The word of a least entry is inside. -/
theorem least_lt (m : FVec Ideal S1x2048 .f32) : (firstAt m (lowest m)).toNat < 2048 := by
  obtain ⟨k, h, -⟩ := least_spec m
  rw [h, toNat_ofNat_pos]; exact k.isLt

/-- The word of a greatest entry is inside. -/
theorem greatest_lt (m : FVec Ideal S1x2048 .f32) : (firstAt m (highest m)).toNat < 2048 := by
  obtain ⟨k, h, -⟩ := greatest_spec m
  rw [h, toNat_ofNat_pos]; exact k.isLt

end Cert.Proof.Pick

end
-- ==== Proof.Words.lean ====
/-
  The words of the kernel's sixteen selection rounds, as the printed program computes them, read as rounds of Pick.lean:
  the eight rounds of the intra selection take the smallest mean and overwrite it with +∞, the eight of the inter
  selection the greatest and overwrite it with −∞. The printed program cuts a round's arithmetic at different places in
  different rounds; each lemma here reads one such piece.
-/
module

public import proofs.«01_k».proof.Proof.Pick

@[expose] public section

noncomputable section

namespace Cert.Proof.Words

open Cert.KernelIdeal Cert.KernelIdeal.Gen Cert.Proof.Pick
open Idealize.ShloMosaic Idealize.ShloMosaic.ValueIdx

/-- A row of means. -/
abbrev Row := FVec Ideal S1x2048 .f32

/-- The one word of a vector of one word. -/
abbrev only (v : IVec S1x1x1 32) : BitVec 32 := extractAt ![0, 0, 0] v inpos_S1x1x1_p0_0_0

/-- A row of means with an axis of extent one added in front. -/
abbrev flat (m : Row) : FVec Ideal S1x1x2048 .f32 := shapeCast S1x1x2048 m shapeCasts_S1x2048_S1x1x2048

/-- The word of the smallest mean, and the row after it is overwritten with +∞. -/
def wordLo (m : Row) : BitVec 32 := firstAt m (lowest m)
def nextLo (m : Row) : Row := masked (Scalar.ofBits (F := Ideal) .f32 0x7F800000#32) m (wordLo m)

/-- The word of the greatest mean, and the row after it is overwritten with −∞. -/
def wordHi (m : Row) : BitVec 32 := firstAt m (highest m)
def nextHi (m : Row) : Row := masked (Scalar.ofBits (F := Ideal) .f32 0xFF800000#32) m (wordHi m)

/-- The rows after `n` rounds. -/
def rowLo (m : Row) : Nat → Row
  | 0 => m
  | n + 1 => nextLo (rowLo m n)
def rowHi (m : Row) : Nat → Row
  | 0 => m
  | n + 1 => nextHi (rowHi m n)

/-- The candidates of a round, before the first of them is taken. -/
abbrev hits (m : Row) (v : Ideal .f32) : IVec S1x1x2048 32 :=
  shapeCast S1x1x2048 (select (cmpf .oeq m (broadcast S1x2048 v)) positions (broadcast S1x2048 2048#32)) shapeCasts_S1x2048_S1x1x2048

/-- The first of the candidates, as a vector of one word. -/
abbrev firstHit (h : IVec S1x1x2048 32) : IVec S1 32 := multiReductionI .minsi [1, 2] S1 h 2147483647#32 reduces_S1x1x2048_S1 rfl

/-- The greatest entry as a vector of one entry. -/
abbrev highest1 (m : Row) : FVec Ideal S1 .f32 := multiReduction .maximumf [1, 2] S1 (flat m) 0xFF800000#32 reduces_S1x1x2048_S1 (.inl rfl) rfl

/-! ## The intra rounds -/

theorem lo0 (x : Vec Ideal S1x2048 .f32) : only (k0_pay227 (F := Ideal) x) = wordLo (k0_pay226 x) := rfl
theorem lo_row1 (x : Vec Ideal S1x2048 .f32) : k0_pay229 x = nextLo (k0_pay226 x) := rfl
theorem lo_flat1 (x : Vec Ideal S1x2048 .f32) : k0_pay230 x = flat (nextLo (k0_pay226 x)) := rfl
theorem lo1 (m : Row) : only (k0_pay231 positions m (flat m)) = wordLo m := rfl
theorem lo_row2 (m : Row) : k0_pay233 positions m (flat m) = nextLo m := rfl
theorem lo2 (m : Row) : only (k0_pay234 positions m (flat m)) = wordLo (nextLo m) := rfl
theorem lo3 (m : Row) : only (k0_pay238 positions m (wordLo m)) = wordLo (nextLo m) := rfl
theorem lo_row4 (m : Row) : k0_pay240 positions m (wordLo m) = nextLo (nextLo m) := rfl
theorem lo4 (m : Row) : only (k0_pay241 positions m (wordLo m)) = wordLo (nextLo (nextLo m)) := rfl
theorem lo5 (m : Row) : only (k0_pay244 positions m (wordLo m)) = wordLo (nextLo m) := rfl
theorem lo_row6 (m : Row) : k0_pay246 positions m (wordLo m) = nextLo (nextLo m) := rfl
theorem lo_hits6 (m : Row) : k0_pay247 positions m (wordLo m) = hits (nextLo (nextLo m)) (lowest (nextLo (nextLo m))) := rfl
theorem lo6 (m : Row) : only (k0_pay248 (hits m (lowest m))) = wordLo m := rfl
theorem lo7 (m : Row) : only (k0_pay250 positions m (hits m (lowest m))) = wordLo (nextLo m) := rfl

/-! ## The inter rounds -/

theorem hi_red0 (x : Vec Ideal S1x2048 .f32) : k0_pay253 (F := Ideal) x = highest1 (k0_pay252 x) := rfl
theorem hi0 (m : Row) : only (k0_pay254 positions m (highest1 m)) = wordHi m := rfl
theorem hi_row1 (m : Row) : k0_pay256 positions m (highest1 m) = nextHi m := rfl
theorem hi1 (m : Row) : only (k0_pay257 positions m (highest1 m)) = wordHi (nextHi m) := rfl
theorem hi2 (m : Row) : only (k0_pay260 positions m (wordHi m)) = wordHi (nextHi m) := rfl
theorem hi_row3 (m : Row) : k0_pay262 positions m (wordHi m) = nextHi (nextHi m) := rfl
theorem hi3 (m : Row) : only (k0_pay263 positions m (wordHi m)) = wordHi (nextHi (nextHi m)) := rfl
theorem hi4 (m : Row) : only (k0_pay267 positions m (wordHi m)) = wordHi (nextHi m) := rfl
theorem hi_row5 (m : Row) : k0_pay269 positions m (wordHi m) = nextHi (nextHi m) := rfl
theorem hi_hit5 (m : Row) : k0_pay270 positions m (wordHi m) = firstHit (hits (nextHi (nextHi m)) (highest (nextHi (nextHi m)))) := rfl
theorem hi5 (m : Row) : only (k0_pay271 (firstHit (hits m (highest m)))) = wordHi m := rfl
theorem hi6 (m : Row) : only (k0_pay274 positions m (firstHit (hits m (highest m)))) = wordHi (nextHi m) := rfl
theorem hi_row7 (m : Row) : k0_pay276 positions m (firstHit (hits m (highest m))) = nextHi (nextHi m) := rfl
theorem hi_high7 (m : Row) : k0_pay277 positions m (firstHit (hits m (highest m))) = highest (nextHi (nextHi m)) := rfl
theorem hi_hits7 (m : Row) : k0_pay278 positions m (highest m) = hits m (highest m) := rfl
theorem hi7 (m : Row) : only (k0_pay1 (hits m (highest m))) = wordHi m := rfl

/-! ## Every word is below 2048, whatever the row -/

theorem lt_lo0 (x : Vec Ideal S1x2048 .f32) : (only (k0_pay227 (F := Ideal) x)).toNat < 2048 := least_lt (k0_pay226 x)
theorem lt_lo1 (m : Row) : (only (k0_pay231 positions m (flat m))).toNat < 2048 := least_lt m
theorem lt_lo2 (m : Row) : (only (k0_pay234 positions m (flat m))).toNat < 2048 := least_lt (nextLo m)
theorem lt_lo3 (m : Row) (w) : (only (k0_pay238 positions m w)).toNat < 2048 := least_lt (k0_pay237 positions m w)
theorem lt_lo4 (m : Row) (w) : (only (k0_pay241 positions m w)).toNat < 2048 := least_lt (k0_pay240 positions m w)
theorem lt_lo5 (m : Row) (w) : (only (k0_pay244 positions m w)).toNat < 2048 := least_lt (k0_pay243 positions m w)
theorem lt_lo6 (m : Row) (w) : (only (k0_pay248 (k0_pay247 positions m w))).toNat < 2048 := least_lt (k0_pay246 positions m w)
theorem lt_lo7 (m : Row) (h) : (only (k0_pay250 positions m h)).toNat < 2048 :=
  least_lt (masked (Scalar.ofBits (F := Ideal) .f32 0x7F800000#32) m (only (k0_pay248 h)))
theorem lt_hi0 (x : Vec Ideal S1x2048 .f32) : (only (k0_pay254 positions (k0_pay252 x) (k0_pay253 (F := Ideal) x))).toNat < 2048 := greatest_lt (k0_pay252 x)
theorem lt_hi1 (m : Row) (h) : (only (k0_pay257 positions m h)).toNat < 2048 := greatest_lt (k0_pay256 positions m h)
theorem lt_hi2 (m : Row) (w) : (only (k0_pay260 positions m w)).toNat < 2048 := greatest_lt (k0_pay259 positions m w)
theorem lt_hi3 (m : Row) (w) : (only (k0_pay263 positions m w)).toNat < 2048 := greatest_lt (k0_pay262 positions m w)
theorem lt_hi4 (m : Row) (w) : (only (k0_pay267 positions m w)).toNat < 2048 := greatest_lt (k0_pay266 positions m w)
theorem lt_hi5 (m : Row) (w) : (only (k0_pay271 (k0_pay270 positions m w))).toNat < 2048 := greatest_lt (k0_pay269 positions m w)
theorem lt_hi6 (m : Row) (h) : (only (k0_pay274 positions m h)).toNat < 2048 := greatest_lt (k0_pay273 positions m h)
theorem lt_hi7 (m : Row) (h) : (only (k0_pay1 (k0_pay278 positions (k0_pay276 positions m h) (k0_pay277 positions m h)))).toNat < 2048 :=
  greatest_lt (k0_pay276 positions m h)

end Cert.Proof.Words

end
-- ==== Proof.Rows.lean ====
/-
  The eight rows a grid step stores into one output block: each is a row of an input block, picked by a word.
-/
module

public import proofs.«01_k».proof.Proof.Words
public import Idealize.ShloMosaic.Lib.Claim
public import Idealize.ShloMosaic.Lib.Pipeline.Value
public import Idealize.ShloMosaic.Lib.Pointwise.Reshape
public import Idealize.ShloMosaic.Lib.Writes

@[expose] public section

noncomputable section

namespace Cert.Proof.Rows

open Cert.KernelIdeal Cert.KernelIdeal.Gen
open Idealize.ShloMosaic Idealize.ShloMosaic.ValueIdx Idealize.SL.Sem

/-- Row `w` of a block of 2048 rows. -/
def rowAt (x : Vec Ideal S1x2048x32 .f32) (w : BitVec 32) (d : Fin 32) : Ideal .f32 :=
  x (ValueIdx.ix3 0 ⟨w.toNat % 2048, Nat.mod_lt _ (by decide)⟩ d)

/-- The block of the eight rows the words name. -/
def picked (x : Vec Ideal S1x2048x32 .f32) (w : Fin 8 → BitVec 32) : Vec Ideal S1x8x32 .f32 :=
  fun y => rowAt x (w (y 1)) (y 2)

/-- One of those rows, as it is stored. -/
def one (x : Vec Ideal S1x2048x32 .f32) (w : BitVec 32) : Vec Ideal S1x1x32 .f32 := fun z => rowAt x w (z 2)

/-- Copying a row through a flat vector changes nothing. -/
theorem copied (v : Vec Ideal S1x1x32 .f32) : k0_pay2 v = v := by
  show shapeCast S1x1x32 (shapeCast S32 (shapeCast S1x32 v _) _) _ = v
  rw [shapeCast_comp, shapeCast_comp, shapeCast_id]

/-- What a load of one row at a word below 2048 reads. -/
theorem loaded {κ : Kind} {sp : Space} (v : View sig κ sp S1x2048x32 .f32) (f : v.ty.Contents (Elt Ideal)) (w : BitVec 32)
    (h : ∀ a, (![0, (Scalar.indexCast w).toNat, 0] : Fin 3 → Nat) a + S1x1x32.size a ≤ S1x2048x32.size a) (hw : w.toNat < 2048) :
    View.readAt (Elt Ideal) v (Rect.unit (s := S1x2048x32) ![0, (Scalar.indexCast w).toNat, 0] S1x1x32.size h).toLoadRect f
      = one (v.read (Elt Ideal) f) w := by
  funext z
  have e : (Scalar.indexCast w).toNat = w.toNat := by
    have : w.toInt = w.toNat := by rw [BitVec.toInt_eq_toNat_cond]; omega
    simp [Scalar.indexCast, this]
  show v.read (Elt Ideal) f _ = v.read (Elt Ideal) f _
  congr 1
  funext a
  apply Fin.ext
  match a with
  | ⟨0, _⟩ => have := (z 0).isLt; change (z 0).val < 1 at this; show 0 + 1 * (z 0).val = 0; omega
  | ⟨1, _⟩ =>
    have := (z 1).isLt; change (z 1).val < 1 at this
    show (Scalar.indexCast w).toNat + 1 * (z 1).val = w.toNat % 2048
    have := Nat.mod_eq_of_lt hw; omega
  | ⟨2, _⟩ => show 0 + 1 * (z 2).val = (z 2).val; omega

/-- The stored row of a load at word `w`, when `w` is the word `u`. -/
theorem stored {κ : Kind} {sp : Space} (v : View sig κ sp S1x2048x32 .f32) (f : v.ty.Contents (Elt Ideal)) (w u : BitVec 32)
    (h : ∀ a, (![0, (Scalar.indexCast w).toNat, 0] : Fin 3 → Nat) a + S1x1x32.size a ≤ S1x2048x32.size a)
    (e : w = u) (hu : u.toNat < 2048) :
    k0_pay2 (View.readAt (Elt Ideal) v (Rect.unit (s := S1x2048x32) ![0, (Scalar.indexCast w).toNat, 0] S1x1x32.size h).toLoadRect f)
      = one (v.read (Elt Ideal) f) u := by
  subst e
  rw [copied, loaded v f w h hu]

/-- The eight stores of a block, the last first. -/
abbrev pieces (p7 p6 p5 p4 p3 p2 p1 p0 : Vec Ideal S1x1x32 .f32) : List (View.Piece (Elt Ideal) S1x8x32 .f32) :=
  [⟨Rect.unit (s := S1x8x32) ![0, 7, 0] S1x1x32.size inb_S1x8x32_S1x1x32_0_7_0, p7⟩,
   ⟨Rect.unit (s := S1x8x32) ![0, 6, 0] S1x1x32.size inb_S1x8x32_S1x1x32_0_6_0, p6⟩,
   ⟨Rect.unit (s := S1x8x32) ![0, 5, 0] S1x1x32.size inb_S1x8x32_S1x1x32_0_5_0, p5⟩,
   ⟨Rect.unit (s := S1x8x32) ![0, 4, 0] S1x1x32.size inb_S1x8x32_S1x1x32_0_4_0, p4⟩,
   ⟨Rect.unit (s := S1x8x32) ![0, 3, 0] S1x1x32.size inb_S1x8x32_S1x1x32_0_3_0, p3⟩,
   ⟨Rect.unit (s := S1x8x32) ![0, 2, 0] S1x1x32.size inb_S1x8x32_S1x1x32_0_2_0, p2⟩,
   ⟨Rect.unit (s := S1x8x32) ![0, 1, 0] S1x1x32.size inb_S1x8x32_S1x1x32_0_1_0, p1⟩,
   ⟨Rect.unit (s := S1x8x32) ![0, 0, 0] S1x1x32.size inb_S1x8x32_S1x1x32_0_0_0, p0⟩]

/-- They cover it. -/
theorem cover (p7 p6 p5 p4 p3 p2 p1 p0 : Vec Ideal S1x1x32 .f32) (y : S1x8x32.Idx) :
    ∃ p ∈ pieces p7 p6 p5 p4 p3 p2 p1 p0, y ∈ p.1.set :=
  View.cover_of_tiled (pieces p7 p6 p5 p4 p3 p2 p1 p0) S1x1x32.size (by rfl) y

/-- Eight stores of one row each leave the block of the eight rows. -/
theorem block {κ : Kind} {sp : Space} (v : View sig κ sp S1x8x32 .f32) (f : v.ty.Contents (Elt Ideal))
    (x : Vec Ideal S1x2048x32 .f32) (w : Fin 8 → BitVec 32) (p7 p6 p5 p4 p3 p2 p1 p0 : Vec Ideal S1x1x32 .f32)
    (e7 : p7 = one x (w 7)) (e6 : p6 = one x (w 6)) (e5 : p5 = one x (w 5)) (e4 : p4 = one x (w 4))
    (e3 : p3 = one x (w 3)) (e2 : p2 = one x (w 2)) (e1 : p1 = one x (w 1)) (e0 : p0 = one x (w 0)) :
    v.read (Elt Ideal) (v.writes (Elt Ideal) f (pieces p7 p6 p5 p4 p3 p2 p1 p0)) = picked x w := by
  subst e7 e6 e5 e4 e3 e2 e1 e0
  refine (View.read_writes_eq_canon v f _ (cover _ _ _ _ _ _ _ _)).trans ?_
  funext y
  refine View.canon_apply_of_pieces (picked x w) _ ?_ y (cover _ _ _ _ _ _ _ _ y)
  have piece : ∀ (r : Fin 8) (h) (z : S1x1x32.Idx),
      one x (w r) z = picked x w ((Rect.unit (s := S1x8x32) ![0, r.val, 0] S1x1x32.size h).emb z) := fun r h z => by
    have e1 : ((Rect.unit (s := S1x8x32) ![0, r.val, 0] S1x1x32.size h).emb z) 1 = r := Fin.ext (by
      have := (z 1).isLt; change (z 1).val < 1 at this
      show r.val + 1 * (z 1).val = r.val; omega)
    have e2 : ((Rect.unit (s := S1x8x32) ![0, r.val, 0] S1x1x32.size h).emb z) 2 = z 2 := Fin.ext (by
      show 0 + 1 * (z 2).val = (z 2).val; omega)
    show rowAt x (w r) (z 2) = rowAt x (w _) _
    rw [e1, e2]
  intro p hp
  simp only [List.mem_cons, List.not_mem_nil, or_false] at hp
  rcases hp with rfl | rfl | rfl | rfl | rfl | rfl | rfl | rfl
  · exact piece 7 inb_S1x8x32_S1x1x32_0_7_0
  · exact piece 6 inb_S1x8x32_S1x1x32_0_6_0
  · exact piece 5 inb_S1x8x32_S1x1x32_0_5_0
  · exact piece 4 inb_S1x8x32_S1x1x32_0_4_0
  · exact piece 3 inb_S1x8x32_S1x1x32_0_3_0
  · exact piece 2 inb_S1x8x32_S1x1x32_0_2_0
  · exact piece 1 inb_S1x8x32_S1x1x32_0_1_0
  · exact piece 0 inb_S1x8x32_S1x1x32_0_0_0

end Cert.Proof.Rows

end
-- ==== Proof.Chain.lean ====
/-
  The softmax mean of one column of scores, as the kernel accumulates it: the 2048 rows are taken in 256 chunks of eight,
  the chunks are added one after another, and the eight partial sums that remain are halved three times. The kernel
  does this twice for the denominator and the mean and for two score matrices; here it is one function of the scores.
-/
module

public import proofs.«01_k».proof.Proof.Gen.KernelIdeal.Skeleton
public import Idealize.ShloMosaic.PureOps.Ideal
public import Idealize.ShloMosaic.PureOps.Reduce
public import Idealize.ShloMosaic.PureOps.Ideal.Laws
public import Idealize.ShloMosaic.Lib.ValueIdx

@[expose] public section

noncomputable section

namespace Cert.Proof.Chain

open Cert.KernelIdeal Cert.KernelIdeal.Gen
open Idealize.ShloMosaic Idealize.ShloMosaic.ValueIdx

/-- Eight rows from row `8 k` fit in the 2048 rows. -/
theorem slices_chunk (k : ℕ) (h : k < 256) : S2048x2048.Slices ![8 * k, 0] S8x2048 :=
  ⟨rfl, fun a => by
    fin_cases a
    · show 8 * k + 8 ≤ 2048
      omega
    · show 0 + 2048 ≤ 2048
      omega⟩

/-- The exponentials of chunk `k`, shifted by the column maxima. -/
def chunk (st : FVec Ideal S2048x2048 .f32) (top : FVec Ideal S1x2048 .f32) (k : ℕ) (h : k < 256) :
    FVec Ideal S8x2048 .f32 :=
  exp (subf (extractStridedSlice S8x2048 ![8 * k, 0] st (slices_chunk k h)) (broadcastTo S8x2048 top broadcasts_S1x2048_S8x2048))

/-- The same divided by the denominators. -/
def share (st : FVec Ideal S2048x2048 .f32) (top den : FVec Ideal S1x2048 .f32) (k : ℕ) (h : k < 256) :
    FVec Ideal S8x2048 .f32 :=
  divf (chunk st top k h) (broadcastTo S8x2048 den broadcasts_S1x2048_S8x2048)

/-- Chunks 0 .. n added one after another. -/
def added (f : (k : ℕ) → k < 256 → FVec Ideal S8x2048 .f32) : (n : ℕ) → n < 256 → FVec Ideal S8x2048 .f32
  | 0, h => f 0 h
  | n + 1, h => addf (added f n (Nat.lt_of_succ_lt h)) (f (n + 1) h)

/-- Eight rows added to one by halving three times. -/
def halved (x : FVec Ideal S8x2048 .f32) : FVec Ideal S1x2048 .f32 :=
  let y : FVec Ideal S4x2048 .f32 := addf (extractStridedSlice S4x2048 ![0, 0] x slices_S8x2048_o0_0_S4x2048)
    (extractStridedSlice S4x2048 ![4, 0] x slices_S8x2048_o4_0_S4x2048)
  let z : FVec Ideal S2x2048 .f32 := addf (extractStridedSlice S2x2048 ![0, 0] y slices_S4x2048_o0_0_S2x2048)
    (extractStridedSlice S2x2048 ![2, 0] y slices_S4x2048_o2_0_S2x2048)
  addf (extractStridedSlice S1x2048 ![0, 0] z slices_S2x2048_o0_0_S1x2048)
    (extractStridedSlice S1x2048 ![1, 0] z slices_S2x2048_o1_0_S1x2048)

/-- The column maxima. -/
abbrev tops (st : FVec Ideal S2048x2048 .f32) : FVec Ideal S1x2048 .f32 := k0_pay6 st

/-- The denominators. -/
def den (st : FVec Ideal S2048x2048 .f32) : FVec Ideal S1x2048 .f32 :=
  halved (added (chunk st (tops st)) 255 (by decide))

/-- The column means of the softmax, as the kernel stores them. -/
def mean (st : FVec Ideal S2048x2048 .f32) : FVec Ideal S1x2048 .f32 :=
  shapeCast S1x2048 (mulf (halved (added (share st (tops st) (den st)) 255 (by decide)))
    (broadcast S1x2048 (Scalar.ofBits .f32 0x3A000000#32))) shapeCasts_S1x2048_S1x2048

end Cert.Proof.Chain

end
-- ==== Proof.Body.lean ====
/-
  One grid step of the kernel, run whole: from the four blocks of a batch element it stores the means of both softmaxes
  in the two scratch rows, selects eight words from each, and copies the rows those words name.
-/
module

public import proofs.«01_k».proof.Proof.Gen.KernelIdeal.Frame
public import proofs.«01_k».proof.Proof.Gen.KernelIdeal.Skeleton
public import Idealize.ShloMosaic.Lib.Claim
public import Idealize.ShloMosaic.PureOps.Ideal
public import proofs.«01_k».proof.Proof.Rows
public import proofs.«01_k».proof.Proof.Chain

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The row of intra means of a batch element, from its reference flow; the row of inter means also from its supplementary flow. -/
def intra (x2 : Vec Ideal S1x2048x32 .f32) : Words.Row := k0_pay226 (Chain.mean (k0_pay4 x2))
def inter (x2 x4 : Vec Ideal S1x2048x32 .f32) : Words.Row := k0_pay252 (Chain.mean (k0_pay5 x2 x4))

/-- The word of each round. -/
def loAt (x2 : Vec Ideal S1x2048x32 .f32) (r : Fin 8) : BitVec 32 := Words.wordLo (Words.rowLo (intra x2) r.val)
def hiAt (x2 x4 : Vec Ideal S1x2048x32 .f32) (r : Fin 8) : BitVec 32 := Words.wordHi (Words.rowHi (inter x2 x4) r.val)

/-- The two blocks a grid step leaves. -/
def left (x1 x2 : Vec Ideal S1x2048x32 .f32) : Vec Ideal S1x8x32 .f32 := Rows.picked x1 (loAt x2)
def right (x2 x3 x4 : Vec Ideal S1x2048x32 .f32) : Vec Ideal S1x8x32 .f32 := Rows.picked x3 (hiAt x2 x4)

theorem loAt_lt (x2 : Vec Ideal S1x2048x32 .f32) (r : Fin 8) : (loAt x2 r).toNat < 2048 :=
  Pick.least_lt (Words.rowLo (intra x2) r.val)
theorem hiAt_lt (x2 x4 : Vec Ideal S1x2048x32 .f32) (r : Fin 8) : (hiAt x2 x4 r).toNat < 2048 :=
  Pick.greatest_lt (Words.rowHi (inter x2 x4) r.val)

/-- A load of the whole block at zero offsets reads the block. -/
theorem read_all {κ : Kind} {sp : Space} (v : View sig κ sp S1x2048x32 .f32) (f : v.ty.Contents (Elt Ideal)) :
    View.readAt (Elt Ideal) v (Rect.unit (s := S1x2048x32) ![0, 0, 0] S1x2048x32.size inb_S1x2048x32_S1x2048x32_0_0_0).toLoadRect f
      = v.read (Elt Ideal) f := by
  rw [View.readAt_eq_ld]
  exact View.ld_unit_zero (by funext a; fin_cases a <;> rfl) _ _

/-- A row stored whole and loaded whole reads as it was stored. -/
theorem scratch_read {κ : Kind} {sp : Space} (v : View sig κ sp S1x2048 .f32) (w : Vec Ideal S1x2048 .f32) :
    v.readCov [(⟨Rect.unit (s := S1x2048) ![0, 0] S1x2048.size inb_S1x2048_S1x2048_0_0, w⟩ : View.Piece (Elt Ideal) S1x2048 .f32)]
      (Rect.unit (s := S1x2048) ![0, 0] S1x2048.size inb_S1x2048_S1x2048_0_0).toLoadRect = w :=
  View.readCov_unit_zero v (by funext a; fin_cases a <;> rfl) _ w

seal k0_pay227 k0_pay231 k0_pay234 k0_pay238 k0_pay241 k0_pay244 k0_pay248 k0_pay250 k0_pay254 k0_pay257 k0_pay260 k0_pay263 k0_pay267 k0_pay271 k0_pay274 k0_pay1

set_option maxRecDepth 100000 in
set_option maxHeartbeats 40000000 in
/-- The body's triple: the four input blocks are returned as they were, the two output blocks hold the selected rows, and
    the two scratch rows hold something. -/
theorem sound_kernel (c : Dev nD) (E : Set ℕ) (i : grid0.Coords) (arg1 : Memref sig .tc .vmem S1x2048x32 .f32) (harg1 : arg1.IsWhole)
    (arg2 : Memref sig .tc .vmem S1x2048x32 .f32) (harg2 : arg2.IsWhole) (arg3 : Memref sig .tc .vmem S1x2048x32 .f32) (harg3 : arg3.IsWhole)
    (arg4 : Memref sig .tc .vmem S1x2048x32 .f32) (harg4 : arg4.IsWhole) (arg5 : Memref sig .tc .vmem S1x8x32 .f32) (harg5 : arg5.IsWhole)
    (arg6 : Memref sig .tc .vmem S1x8x32 .f32) (harg6 : arg6.IsWhole) (arg7 : Memref sig .tc .vmem S1x2048 .f32) (harg7 : arg7.IsWhole)
    (arg8 : Memref sig .tc .vmem S1x2048 .f32) (harg8 : arg8.IsWhole)
    (x1 x2 x3 x4 : Vec Ideal S1x2048x32 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare (left x1 x2)
          ∗ owns (c : Thread nD τ) arg6 fullShare (right x2 x3 x4)
          ∗ (∃ d, owns (c : Thread nD τ) arg7 fullShare d) ∗ (∃ d, owns (c : Thread nD τ) arg8 fullShare d)) -∗ K ⟨⟩))
      ⊢ wp frame (wpE (defs₀ (F := Ideal)) Variants.none c none) E (cc0__fusion_kernel i arg1 harg1 arg2 harg2 arg3 harg3 arg4 harg4 arg5 harg5 arg6 harg6 arg7 harg7 arg8 harg8) K := by
  simp only [cc0__fusion_kernel_eq_skeleton]; unfold cc0__fusion_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf1 hf2 hf3 hf4
  sl_exec (disch := first | exact Pick.inside_of_lt _ (Words.lt_lo0 _) | exact Pick.inside_of_lt _ (Words.lt_lo1 _) | exact Pick.inside_of_lt _ (Words.lt_lo2 _) | exact Pick.inside_of_lt _ (Words.lt_lo3 _ _) | exact Pick.inside_of_lt _ (Words.lt_lo4 _ _) | exact Pick.inside_of_lt _ (Words.lt_lo5 _ _) | exact Pick.inside_of_lt _ (Words.lt_lo6 _ _) | exact Pick.inside_of_lt _ (Words.lt_lo7 _ _) | exact Pick.inside_of_lt _ (Words.lt_hi0 _) | exact Pick.inside_of_lt _ (Words.lt_hi1 _ _) | exact Pick.inside_of_lt _ (Words.lt_hi2 _ _) | exact Pick.inside_of_lt _ (Words.lt_hi3 _ _) | exact Pick.inside_of_lt _ (Words.lt_hi4 _ _) | exact Pick.inside_of_lt _ (Words.lt_hi5 _ _) | exact Pick.inside_of_lt _ (Words.lt_hi6 _ _) | exact Pick.inside_of_lt _ (Words.lt_hi7 _ _))
  sl_step
  have den1 : sound_kernel.sl.r_45 c arg2 f2 = Chain.den (sound_kernel.sl.r c arg2 f2) := rfl
  have s1 : sound_kernel.sl.r c arg2 f2 = k0_pay4 (arg2.view.read (Elt Ideal) f2) := congrArg k0_pay4 (read_all _ _)
  have s2 : sound_kernel.sl.r_1 c arg2 arg4 f2 f4 = k0_pay5 (arg2.view.read (Elt Ideal) f2) (arg4.view.read (Elt Ideal) f4) :=
    congrArg₂ k0_pay5 (read_all _ _) (read_all _ _)
  have m1 : sound_kernel.sl.v6241 c arg2 arg7 f2 = Chain.mean (sound_kernel.sl.r c arg2 f2) :=
    (scratch_read arg7.view _).trans (show k0_pay113 (sound_kernel.sl.r c arg2 f2) (sound_kernel.sl.r_2 c arg2 f2) (sound_kernel.sl.r_45 c arg2 f2) (sound_kernel.sl.r_108 c arg2 f2) = _ from rfl)
  have m2 : sound_kernel.sl.v6424 c arg2 arg4 arg8 f2 f4 = Chain.mean (sound_kernel.sl.r_1 c arg2 arg4 f2 f4) :=
    (scratch_read arg8.view _).trans (show k0_pay225 (sound_kernel.sl.r_218 c arg2 arg4 f2 f4) (sound_kernel.sl.r_219 c arg2 arg4 f2 f4) = _ from rfl)
  have lo : k0_pay226 (sound_kernel.sl.v6241 c arg2 arg7 f2) = Words.rowLo (intra (arg2.view.read (Elt Ideal) f2)) 0 := by rw [m1, s1]; rfl
  have hi : sound_kernel.sl.r_227 c arg2 arg4 arg8 f2 f4 = Words.rowHi (inter (arg2.view.read (Elt Ideal) f2) (arg4.view.read (Elt Ideal) f4)) 0 := by
    show k0_pay252 (sound_kernel.sl.v6424 c arg2 arg4 arg8 f2 f4) = _
    rw [m2, s2]; rfl
  have w0 : sound_kernel.sl.v6255 c arg2 arg7 f2 = Words.wordLo (Words.rowLo (intra (arg2.view.read (Elt Ideal) f2)) 0) := (Words.lo0 _).trans (congrArg Words.wordLo lo)
  have t1 : sound_kernel.sl.r_220 c arg2 arg7 f2 = Words.rowLo (intra (arg2.view.read (Elt Ideal) f2)) 1 := (Words.lo_row1 _).trans (congrArg Words.nextLo lo)
  have u1 : sound_kernel.sl.r_221 c arg2 arg7 f2 = Words.flat (Words.rowLo (intra (arg2.view.read (Elt Ideal) f2)) 1) := (Words.lo_flat1 _).trans (congrArg (fun m => Words.flat (Words.nextLo m)) lo)
  have w1 : sound_kernel.sl.v6278 c arg2 arg7 f2 = Words.wordLo (Words.rowLo (intra (arg2.view.read (Elt Ideal) f2)) 1) := by
    show Words.only (k0_pay231 Pick.positions (sound_kernel.sl.r_220 c arg2 arg7 f2) (sound_kernel.sl.r_221 c arg2 arg7 f2)) = _
    rw [t1, u1]; exact Words.lo1 _
  have t2 : sound_kernel.sl.r_222 c arg2 arg7 f2 = Words.rowLo (intra (arg2.view.read (Elt Ideal) f2)) 2 := by
    show k0_pay233 Pick.positions (sound_kernel.sl.r_220 c arg2 arg7 f2) (sound_kernel.sl.r_221 c arg2 arg7 f2) = _
    rw [t1, u1]; exact Words.lo_row2 _
  have w2 : sound_kernel.sl.v6301 c arg2 arg7 f2 = Words.wordLo (Words.rowLo (intra (arg2.view.read (Elt Ideal) f2)) 2) := by
    show Words.only (k0_pay234 Pick.positions (sound_kernel.sl.r_220 c arg2 arg7 f2) (sound_kernel.sl.r_221 c arg2 arg7 f2)) = _
    rw [t1, u1]; exact Words.lo2 _
  have w3 : sound_kernel.sl.v6324 c arg2 arg7 f2 = Words.wordLo (Words.rowLo (intra (arg2.view.read (Elt Ideal) f2)) 3) := by
    show Words.only (k0_pay238 Pick.positions (sound_kernel.sl.r_222 c arg2 arg7 f2) (sound_kernel.sl.v6301 c arg2 arg7 f2)) = _
    rw [t2, w2]; exact Words.lo3 _
  have t4 : sound_kernel.sl.r_224 c arg2 arg7 f2 = Words.rowLo (intra (arg2.view.read (Elt Ideal) f2)) 4 := by
    show k0_pay240 Pick.positions (sound_kernel.sl.r_222 c arg2 arg7 f2) (sound_kernel.sl.v6301 c arg2 arg7 f2) = _
    rw [t2, w2]; exact Words.lo_row4 _
  have w4 : sound_kernel.sl.v6347 c arg2 arg7 f2 = Words.wordLo (Words.rowLo (intra (arg2.view.read (Elt Ideal) f2)) 4) := by
    show Words.only (k0_pay241 Pick.positions (sound_kernel.sl.r_222 c arg2 arg7 f2) (sound_kernel.sl.v6301 c arg2 arg7 f2)) = _
    rw [t2, w2]; exact Words.lo4 _
  have w5 : sound_kernel.sl.v6370 c arg2 arg7 f2 = Words.wordLo (Words.rowLo (intra (arg2.view.read (Elt Ideal) f2)) 5) := by
    show Words.only (k0_pay244 Pick.positions (sound_kernel.sl.r_224 c arg2 arg7 f2) (sound_kernel.sl.v6347 c arg2 arg7 f2)) = _
    rw [t4, w4]; exact Words.lo5 _
  have t6 : sound_kernel.sl.r_225 c arg2 arg7 f2 = Words.rowLo (intra (arg2.view.read (Elt Ideal) f2)) 6 := by
    show k0_pay246 Pick.positions (sound_kernel.sl.r_224 c arg2 arg7 f2) (sound_kernel.sl.v6347 c arg2 arg7 f2) = _
    rw [t4, w4]; exact Words.lo_row6 _
  have u6 : sound_kernel.sl.r_226 c arg2 arg7 f2 = Words.hits (Words.rowLo (intra (arg2.view.read (Elt Ideal) f2)) 6) (Pick.lowest (Words.rowLo (intra (arg2.view.read (Elt Ideal) f2)) 6)) := by
    show k0_pay247 Pick.positions (sound_kernel.sl.r_224 c arg2 arg7 f2) (sound_kernel.sl.v6347 c arg2 arg7 f2) = _
    rw [t4, w4]; exact Words.lo_hits6 _
  have w6 : sound_kernel.sl.v6393 c arg2 arg7 f2 = Words.wordLo (Words.rowLo (intra (arg2.view.read (Elt Ideal) f2)) 6) := by
    show Words.only (k0_pay248 (sound_kernel.sl.r_226 c arg2 arg7 f2)) = _
    rw [u6]; exact Words.lo6 _
  have w7 : sound_kernel.sl.v6416 c arg2 arg7 f2 = Words.wordLo (Words.rowLo (intra (arg2.view.read (Elt Ideal) f2)) 7) := by
    show Words.only (k0_pay250 Pick.positions (sound_kernel.sl.r_225 c arg2 arg7 f2) (sound_kernel.sl.r_226 c arg2 arg7 f2)) = _
    rw [t6, u6]; exact Words.lo7 _
  have a0 : sound_kernel.sl.r_228 c arg2 arg4 arg8 f2 f4 = Words.highest1 (Words.rowHi (inter (arg2.view.read (Elt Ideal) f2) (arg4.view.read (Elt Ideal) f4)) 0) := by
    rw [← hi]; exact Words.hi_red0 _
  have h0 : sound_kernel.sl.v6438 c arg2 arg4 arg8 f2 f4 = Words.wordHi (Words.rowHi (inter (arg2.view.read (Elt Ideal) f2) (arg4.view.read (Elt Ideal) f4)) 0) := by
    show Words.only (k0_pay254 Pick.positions (sound_kernel.sl.r_227 c arg2 arg4 arg8 f2 f4) (sound_kernel.sl.r_228 c arg2 arg4 arg8 f2 f4)) = _
    rw [hi, a0]; exact Words.hi0 _
  have b1 : sound_kernel.sl.r_229 c arg2 arg4 arg8 f2 f4 = Words.rowHi (inter (arg2.view.read (Elt Ideal) f2) (arg4.view.read (Elt Ideal) f4)) 1 := by
    show k0_pay256 Pick.positions (sound_kernel.sl.r_227 c arg2 arg4 arg8 f2 f4) (sound_kernel.sl.r_228 c arg2 arg4 arg8 f2 f4) = _
    rw [hi, a0]; exact Words.hi_row1 _
  have h1 : sound_kernel.sl.v6461 c arg2 arg4 arg8 f2 f4 = Words.wordHi (Words.rowHi (inter (arg2.view.read (Elt Ideal) f2) (arg4.view.read (Elt Ideal) f4)) 1) := by
    show Words.only (k0_pay257 Pick.positions (sound_kernel.sl.r_227 c arg2 arg4 arg8 f2 f4) (sound_kernel.sl.r_228 c arg2 arg4 arg8 f2 f4)) = _
    rw [hi, a0]; exact Words.hi1 _
  have h2 : sound_kernel.sl.v6484 c arg2 arg4 arg8 f2 f4 = Words.wordHi (Words.rowHi (inter (arg2.view.read (Elt Ideal) f2) (arg4.view.read (Elt Ideal) f4)) 2) := by
    show Words.only (k0_pay260 Pick.positions (sound_kernel.sl.r_229 c arg2 arg4 arg8 f2 f4) (sound_kernel.sl.v6461 c arg2 arg4 arg8 f2 f4)) = _
    rw [b1, h1]; exact Words.hi2 _
  have b3 : sound_kernel.sl.r_230 c arg2 arg4 arg8 f2 f4 = Words.rowHi (inter (arg2.view.read (Elt Ideal) f2) (arg4.view.read (Elt Ideal) f4)) 3 := by
    show k0_pay262 Pick.positions (sound_kernel.sl.r_229 c arg2 arg4 arg8 f2 f4) (sound_kernel.sl.v6461 c arg2 arg4 arg8 f2 f4) = _
    rw [b1, h1]; exact Words.hi_row3 _
  have h3 : sound_kernel.sl.v6507 c arg2 arg4 arg8 f2 f4 = Words.wordHi (Words.rowHi (inter (arg2.view.read (Elt Ideal) f2) (arg4.view.read (Elt Ideal) f4)) 3) := by
    show Words.only (k0_pay263 Pick.positions (sound_kernel.sl.r_229 c arg2 arg4 arg8 f2 f4) (sound_kernel.sl.v6461 c arg2 arg4 arg8 f2 f4)) = _
    rw [b1, h1]; exact Words.hi3 _
  have h4 : sound_kernel.sl.v6530 c arg2 arg4 arg8 f2 f4 = Words.wordHi (Words.rowHi (inter (arg2.view.read (Elt Ideal) f2) (arg4.view.read (Elt Ideal) f4)) 4) := by
    show Words.only (k0_pay267 Pick.positions (sound_kernel.sl.r_230 c arg2 arg4 arg8 f2 f4) (sound_kernel.sl.v6507 c arg2 arg4 arg8 f2 f4)) = _
    rw [b3, h3]; exact Words.hi4 _
  have b5 : sound_kernel.sl.r_232 c arg2 arg4 arg8 f2 f4 = Words.rowHi (inter (arg2.view.read (Elt Ideal) f2) (arg4.view.read (Elt Ideal) f4)) 5 := by
    show k0_pay269 Pick.positions (sound_kernel.sl.r_230 c arg2 arg4 arg8 f2 f4) (sound_kernel.sl.v6507 c arg2 arg4 arg8 f2 f4) = _
    rw [b3, h3]; exact Words.hi_row5 _
  have a5 : sound_kernel.sl.r_233 c arg2 arg4 arg8 f2 f4 = Words.firstHit (Words.hits (Words.rowHi (inter (arg2.view.read (Elt Ideal) f2) (arg4.view.read (Elt Ideal) f4)) 5) (Pick.highest (Words.rowHi (inter (arg2.view.read (Elt Ideal) f2) (arg4.view.read (Elt Ideal) f4)) 5))) := by
    show k0_pay270 Pick.positions (sound_kernel.sl.r_230 c arg2 arg4 arg8 f2 f4) (sound_kernel.sl.v6507 c arg2 arg4 arg8 f2 f4) = _
    rw [b3, h3]; exact Words.hi_hit5 _
  have h5 : sound_kernel.sl.v6553 c arg2 arg4 arg8 f2 f4 = Words.wordHi (Words.rowHi (inter (arg2.view.read (Elt Ideal) f2) (arg4.view.read (Elt Ideal) f4)) 5) := by
    show Words.only (k0_pay271 (sound_kernel.sl.r_233 c arg2 arg4 arg8 f2 f4)) = _
    rw [a5]; exact Words.hi5 _
  have h6 : sound_kernel.sl.v6576 c arg2 arg4 arg8 f2 f4 = Words.wordHi (Words.rowHi (inter (arg2.view.read (Elt Ideal) f2) (arg4.view.read (Elt Ideal) f4)) 6) := by
    show Words.only (k0_pay274 Pick.positions (sound_kernel.sl.r_232 c arg2 arg4 arg8 f2 f4) (sound_kernel.sl.r_233 c arg2 arg4 arg8 f2 f4)) = _
    rw [b5, a5]; exact Words.hi6 _
  have b7 : sound_kernel.sl.r_234 c arg2 arg4 arg8 f2 f4 = Words.rowHi (inter (arg2.view.read (Elt Ideal) f2) (arg4.view.read (Elt Ideal) f4)) 7 := by
    show k0_pay276 Pick.positions (sound_kernel.sl.r_232 c arg2 arg4 arg8 f2 f4) (sound_kernel.sl.r_233 c arg2 arg4 arg8 f2 f4) = _
    rw [b5, a5]; exact Words.hi_row7 _
  have c7 : sound_kernel.sl.r_235 c arg2 arg4 arg8 f2 f4 = Pick.highest (Words.rowHi (inter (arg2.view.read (Elt Ideal) f2) (arg4.view.read (Elt Ideal) f4)) 7) := by
    show k0_pay277 Pick.positions (sound_kernel.sl.r_232 c arg2 arg4 arg8 f2 f4) (sound_kernel.sl.r_233 c arg2 arg4 arg8 f2 f4) = _
    rw [b5, a5]; exact Words.hi_high7 _
  have a7 : sound_kernel.sl.r_236 c arg2 arg4 arg8 f2 f4 = Words.hits (Words.rowHi (inter (arg2.view.read (Elt Ideal) f2) (arg4.view.read (Elt Ideal) f4)) 7) (Pick.highest (Words.rowHi (inter (arg2.view.read (Elt Ideal) f2) (arg4.view.read (Elt Ideal) f4)) 7)) := by
    show k0_pay278 Pick.positions (sound_kernel.sl.r_234 c arg2 arg4 arg8 f2 f4) (sound_kernel.sl.r_235 c arg2 arg4 arg8 f2 f4) = _
    rw [b7, c7]; exact Words.hi_hits7 _
  have h7 : sound_kernel.sl.v6599 c arg2 arg4 arg8 f2 f4 = Words.wordHi (Words.rowHi (inter (arg2.view.read (Elt Ideal) f2) (arg4.view.read (Elt Ideal) f4)) 7) := by
    show Words.only (k0_pay1 (sound_kernel.sl.r_236 c arg2 arg4 arg8 f2 f4)) = _
    rw [a7]; exact Words.hi7 _
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    exact Rows.block arg5.view f5 (arg1.view.read (Elt Ideal) f1) (loAt (arg2.view.read (Elt Ideal) f2)) _ _ _ _ _ _ _ _
      (Rows.stored arg1.view f1 _ _ _ w7 (loAt_lt _ 7))
      (Rows.stored arg1.view f1 _ _ _ w6 (loAt_lt _ 6))
      (Rows.stored arg1.view f1 _ _ _ w5 (loAt_lt _ 5))
      (Rows.stored arg1.view f1 _ _ _ w4 (loAt_lt _ 4))
      (Rows.stored arg1.view f1 _ _ _ w3 (loAt_lt _ 3))
      (Rows.stored arg1.view f1 _ _ _ w2 (loAt_lt _ 2))
      (Rows.stored arg1.view f1 _ _ _ w1 (loAt_lt _ 1))
      (Rows.stored arg1.view f1 _ _ _ w0 (loAt_lt _ 0))
  isplitl [H6]
  · iexists _; isplitr; swap; · iexact H6
    ipureintro
    exact Rows.block arg6.view f6 (arg3.view.read (Elt Ideal) f3) (hiAt (arg2.view.read (Elt Ideal) f2) (arg4.view.read (Elt Ideal) f4)) _ _ _ _ _ _ _ _
      (Rows.stored arg3.view f3 _ _ _ h7 (hiAt_lt _ _ 7))
      (Rows.stored arg3.view f3 _ _ _ h6 (hiAt_lt _ _ 6))
      (Rows.stored arg3.view f3 _ _ _ h5 (hiAt_lt _ _ 5))
      (Rows.stored arg3.view f3 _ _ _ h4 (hiAt_lt _ _ 4))
      (Rows.stored arg3.view f3 _ _ _ h3 (hiAt_lt _ _ 3))
      (Rows.stored arg3.view f3 _ _ _ h2 (hiAt_lt _ _ 2))
      (Rows.stored arg3.view f3 _ _ _ h1 (hiAt_lt _ _ 1))
      (Rows.stored arg3.view f3 _ _ _ h0 (hiAt_lt _ _ 0))
  isplitl [H7]
  · iexists _, _; isplitr; swap; · iexact H7
    ipureintro; rfl
  iexists _, _; isplitr; swap; · iexact H8
  ipureintro; rfl

end Cert.Proof.Body

end
-- ==== Proof.Run.lean ====
/-
  The kernel's run: the eight grid steps, each on the blocks of one batch element, leave the two result arrays block by
  block; the arguments are unchanged and every counter returns to zero.
-/
module

public import proofs.«01_k».proof.Proof.Body
public import Idealize.ShloMosaic.Lib.Pipeline.ValueKit

@[expose] public section

noncomputable section

namespace Cert.Proof.Run

open Cert.KernelIdeal Cert.KernelIdeal.Gen Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the pipeline is proved with on core `c`: the arrays as the region finds them; after a step each input's buffer
    holds its block still and the two outputs' the selected rows; the scratch rows are held at something throughout. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left (iblk m c 0 t) (iblk m c 1 t)
    | ⟨5, _⟩ => right (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = left (iblk m c 0 t) (iblk m c 1 t) := by dsimp only [dats]
theorem after0_5 (c : Dev nD) (t : Fin cfg0.N) : (dats m 0 c).after 5 t = right (iblk m c 1 t) (iblk m c 2 t) (iblk m c 3 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The scoped buffers the pipeline does not stage: the two scratch rows. -/
theorem scratch_rows (c : Dev nD) :
    (Pipeline.scopedRest (Ix := Unit) (Name := ℕ) (U := UR sig nD τ) (Lvl := ℕ) (Val := Elt Ideal) spec0 c : sProp 𝕄)
      = iprop((∃ f, ((c : Thread nD τ).loc cc0_scratch0) ↦{fullShare} f) ∗ (∃ f, ((c : Thread nD τ).loc cc0_scratch1) ↦{fullShare} f)) := by
  unfold Pipeline.scopedRest
  rw [show (Finset.univ.filter fun b : Ref sig .tc => b.isScoped) \ Finset.univ.image (Pipeline.stageRef spec0)
      = {cc0_scratch0, cc0_scratch1} from by decide, bigSep_insert (by decide), bigSep_singleton]
  rfl

/-- The invariant taken apart: the scratch rows at something, the generator register at something. -/
theorem inv_eq (c : Dev nD) : (Pipeline.ΦA (Val := Elt Ideal) spec0 c : sProp 𝕄)
    = iprop(((∃ f, ((c : Thread nD τ).loc cc0_scratch0) ↦{fullShare} f) ∗ (∃ f, ((c : Thread nD τ).loc cc0_scratch1) ↦{fullShare} f)) ∗ ∃ r, prngReg c r) := by
  rw [← scratch_rows]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 2000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, inv_eq]
  iintro ⟨⟨⟨⟨%f7, H7⟩, ⟨%f8, H8⟩⟩, ⟨%g, Hg⟩⟩, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (Memref.whole cc0_scratch0) (Memref.isWhole_whole _)
    (Memref.whole cc0_scratch1) (Memref.isWhole_whole _) (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H7]
  · iexists f7
    rw [owns_whole_eq]
    iexists f7; isplitr; swap; · iexact H7
    ipureintro; rfl
  isplitl [H8]
  · iexists f8
    rw [owns_whole_eq]
    iexists f8; isplitr; swap; · iexact H8
    ipureintro; rfl
  simp only [owns_whole_eq]
  iintro ⟨H0, H1, H2, H3, H4, H5, ⟨%e7, %g7, -, H7⟩, ⟨%e8, %g8, -, H8⟩⟩
  isplitl [H7 H8 Hg]
  · isplitr [Hg]
    · isplitl [H7]; · iexists _; iexact H7
      iexists _; iexact H8
    · iexists _; iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every array at what the pipeline leaves, every counter at zero. -/
theorem run_quiescent : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := Ideal))) (s₀ m ρ) (Pipeline.FramePost cfgs (dats m) 0 (V m)) :=
  (θ_run defs _ _).mono (fun _ h => h.1) (run_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_arrays m ρ)

/-- The frame of the kernel: the arguments end unchanged and every counter is zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

/-! ## The result arrays -/

theorem covers4 : (cfg0.win 4).Covers := by decide +kernel
theorem covers5 : (cfg0.win 5).Covers := by decide +kernel

/-- The block of one batch element of an argument array. -/
def batch (X : FVec Ideal S8x2048x32 .f32) (b : Fin 8) : Vec Ideal S1x2048x32 .f32 := fun y => X (ValueIdx.ix3 b (y 1) (y 2))

/-- The intra result: for each batch element the eight rows of the reference tokens its intra words name. -/
def intraOut (tok flow : FVec Ideal S8x2048x32 .f32) : FVec Ideal S8x8x32 .f32 :=
  fun i => left (batch tok (i 0)) (batch flow (i 0)) (ValueIdx.ix3 0 (i 1) (i 2))

/-- The inter result: for each batch element the eight rows of the supplementary tokens its inter words name. -/
def interOut (flow tok sup : FVec Ideal S8x2048x32 .f32) : FVec Ideal S8x8x32 .f32 :=
  fun i => right (batch flow (i 0)) (batch tok (i 0)) (batch sup (i 0)) (ValueIdx.ix3 0 (i 1) (i 2))

theorem index0 : ∀ t : Fin cfg0.N, win0_0.index t = ![t.val, 0, 0] := by decide +kernel
theorem index1 : ∀ t : Fin cfg0.N, win0_1.index t = ![t.val, 0, 0] := by decide +kernel
theorem index2 : ∀ t : Fin cfg0.N, win0_2.index t = ![t.val, 0, 0] := by decide +kernel
theorem index3 : ∀ t : Fin cfg0.N, win0_3.index t = ![t.val, 0, 0] := by decide +kernel
theorem index4 : ∀ t : Fin cfg0.N, win0_4.index t = ![t.val, 0, 0] := by decide +kernel
theorem index5 : ∀ t : Fin cfg0.N, win0_5.index t = ![t.val, 0, 0] := by decide +kernel

/-- Input window 0's block at a step is the batch element of the step. -/
theorem block0 (c : Dev nD) (t : Fin cfg0.N) : iblk m c 0 t = batch (m ((c : Thread nD τ).loc main_arg0)) t := by
  funext y
  have h0 : (y 0 : ℕ) < 1 := (y 0).isLt
  blk_simp [iblk]
  refine congrArg (m ((c : Thread nD τ).loc main_arg0)) (funext fun a => Fin.ext ?_)
  match a with
  | ⟨0, _⟩ => blk_simp [index0]
  | ⟨1, _⟩ => blk_simp [index0]; rfl
  | ⟨2, _⟩ => blk_simp [index0]; rfl

/-- Input window 1's block at a step is the batch element of the step. -/
theorem block1 (c : Dev nD) (t : Fin cfg0.N) : iblk m c 1 t = batch (m ((c : Thread nD τ).loc main_arg1)) t := by
  funext y
  have h0 : (y 0 : ℕ) < 1 := (y 0).isLt
  blk_simp [iblk]
  refine congrArg (m ((c : Thread nD τ).loc main_arg1)) (funext fun a => Fin.ext ?_)
  match a with
  | ⟨0, _⟩ => blk_simp [index1]
  | ⟨1, _⟩ => blk_simp [index1]; rfl
  | ⟨2, _⟩ => blk_simp [index1]; rfl

/-- Input window 2's block at a step is the batch element of the step. -/
theorem block2 (c : Dev nD) (t : Fin cfg0.N) : iblk m c 2 t = batch (m ((c : Thread nD τ).loc main_arg2)) t := by
  funext y
  have h0 : (y 0 : ℕ) < 1 := (y 0).isLt
  blk_simp [iblk]
  refine congrArg (m ((c : Thread nD τ).loc main_arg2)) (funext fun a => Fin.ext ?_)
  match a with
  | ⟨0, _⟩ => blk_simp [index2]
  | ⟨1, _⟩ => blk_simp [index2]; rfl
  | ⟨2, _⟩ => blk_simp [index2]; rfl

/-- Input window 3's block at a step is the batch element of the step. -/
theorem block3 (c : Dev nD) (t : Fin cfg0.N) : iblk m c 3 t = batch (m ((c : Thread nD τ).loc main_arg3)) t := by
  funext y
  have h0 : (y 0 : ℕ) < 1 := (y 0).isLt
  blk_simp [iblk]
  refine congrArg (m ((c : Thread nD τ).loc main_arg3)) (funext fun a => Fin.ext ?_)
  match a with
  | ⟨0, _⟩ => blk_simp [index3]
  | ⟨1, _⟩ => blk_simp [index3]; rfl
  | ⟨2, _⟩ => blk_simp [index3]; rfl

/-- Result 0 after the whole run. -/
theorem out4 (c : Dev nD) : (dats m 0 c).arrAt 4 cfg0.N
    = intraOut (m ((c : Thread nD τ).loc main_arg0)) (m ((c : Thread nD τ).loc main_arg1)) := by
  refine Dat.arrAt_eq_of_covers (dats m 0 c) 4 _ covers4 fun t hf y => ?_
  rw [after0_4]
  blk_simp
  rw [block0, block1]
  have h0 : (y 0 : ℕ) < 1 := (y 0).isLt
  have e : ((win0_4.blk t).view.emb y : S8x8x32.Idx) = ValueIdx.ix3 (t : Fin 8) (y 1) (y 2) := funext fun a => Fin.ext (by
    match a with
    | ⟨0, _⟩ => blk_simp [index4]
    | ⟨1, _⟩ => blk_simp [index4]; rfl
    | ⟨2, _⟩ => blk_simp [index4]; rfl)
  exact (congrArg (intraOut (m ((c : Thread nD τ).loc main_arg0)) (m ((c : Thread nD τ).loc main_arg1))) e).symm ▸ rfl

/-- Result 1 after the whole run. -/
theorem out5 (c : Dev nD) : (dats m 0 c).arrAt 5 cfg0.N
    = interOut (m ((c : Thread nD τ).loc main_arg1)) (m ((c : Thread nD τ).loc main_arg2)) (m ((c : Thread nD τ).loc main_arg3)) := by
  refine Dat.arrAt_eq_of_covers (dats m 0 c) 5 _ covers5 fun t hf y => ?_
  rw [after0_5]
  blk_simp
  rw [block1, block2, block3]
  have h0 : (y 0 : ℕ) < 1 := (y 0).isLt
  have e : ((win0_5.blk t).view.emb y : S8x8x32.Idx) = ValueIdx.ix3 (t : Fin 8) (y 1) (y 2) := funext fun a => Fin.ext (by
    match a with
    | ⟨0, _⟩ => blk_simp [index5]
    | ⟨1, _⟩ => blk_simp [index5]; rfl
    | ⟨2, _⟩ => blk_simp [index5]; rfl)
  exact (congrArg (interOut (m ((c : Thread nD τ).loc main_arg1)) (m ((c : Thread nD τ).loc main_arg2)) (m ((c : Thread nD τ).loc main_arg3))) e).symm ▸ rfl

/-- The run with its results read. -/
theorem run : θ_run defs (onTc (τ := τ) (main (F := Ideal))) ⟨m, fun _ => 0, ρ⟩ (fun r => ∀ c : Dev nD,
      r.2.mem ((c.tc : Thread nD τ).loc main_v0_0)
        = intraOut (m ((c.tc : Thread nD τ).loc main_arg0)) (m ((c.tc : Thread nD τ).loc main_arg1))
      ∧ r.2.mem ((c.tc : Thread nD τ).loc main_v0_1)
        = interOut (m ((c.tc : Thread nD τ).loc main_arg1)) (m ((c.tc : Thread nD τ).loc main_arg2))
            (m ((c.tc : Thread nD τ).loc main_arg3))) :=
  (θ_run defs _ _).mono (fun _ h c => ⟨((h c).1 4).trans (out4 m c), ((h c).1 5).trans (out5 m c)⟩) (run_arrays m ρ)

end Cert.Proof.Run

end
-- ==== Proof.Reals.lean ====
/-
  Real numbers among the extended reals: which operations of exact arithmetic keep an array real, and what the quotient by
  a row's length is where the length is not zero.
-/
module

public import Idealize.ShloMosaic.PureOps.Ideal
public import Idealize.ShloMosaic.PureOps.Ideal.Laws
public import Mathlib.Data.EReal.Inv

@[expose] public section

noncomputable section

namespace Cert.Proof.Reals

open Idealize.ShloMosaic

/-- The extended real is a real number. -/
def IsReal (x : EReal) : Prop := ∃ r : ℝ, x = (r : EReal)

theorem IsReal.coe (r : ℝ) : IsReal (r : EReal) := ⟨r, rfl⟩

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

/-- A finite sum of real numbers is the sum in the reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The greatest of finitely many reals, folded from −∞, is real when there is at least one. -/
theorem IsReal.fold_max {n : ℕ} (hn : 0 < n) (f : Fin n → EReal) (h : ∀ i, IsReal (f i)) :
    IsReal ((Finset.univ : Finset (Fin n)).fold max (⊥ : EReal) f) := by
  have hb : (Finset.univ : Finset (Fin n)).fold max (⊥ : EReal) f ≠ ⊥ := by
    refine ne_of_gt ((Finset.lt_fold_max _).2 (Or.inr ⟨⟨0, hn⟩, Finset.mem_univ _, ?_⟩))
    obtain ⟨r, hr⟩ := h ⟨0, hn⟩
    rw [hr]; exact EReal.bot_lt_coe r
  have ht : (Finset.univ : Finset (Fin n)).fold max (⊥ : EReal) f ≠ ⊤ := by
    refine ne_of_lt ((Finset.fold_max_lt _).2 ⟨bot_lt_top, fun i _ => ?_⟩)
    obtain ⟨r, hr⟩ := h i
    rw [hr]; exact EReal.coe_lt_top r
  exact ⟨_, (EReal.coe_toReal ht hb).symm⟩

/-- A reshaped real array is real. -/
theorem IsReal.cast {s t : Shape} (x : s.Idx → EReal) (h : s.ShapeCasts t) (hx : ∀ i, IsReal (x i)) (i : t.Idx) :
    IsReal (shapeCast t x h i) := by
  unfold shapeCast; exact hx _

/-- The quotient of two reals by a nonzero one. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem sqrt_coe (a : ℝ) (h : 0 < a) : Ideal.sqrt (a : EReal) = ((Real.sqrt a : ℝ) : EReal) := by
  show (if a < 0 then ⊥ else (Real.sqrt a : EReal)) = _
  rw [if_neg (not_lt.2 h.le)]

theorem exp_coe (a : ℝ) : Ideal.exp (a : EReal) = ((Real.exp a : ℝ) : EReal) := rfl

/-- The quotient of a real by the root of a positive real is real. -/
theorem IsReal.unit {x s : EReal} (hx : IsReal x) (hs : IsReal s) (h0 : 0 < s) : IsReal (Ideal.div x (Ideal.sqrt s)) := by
  obtain ⟨a, rfl⟩ := hx
  obtain ⟨b, rfl⟩ := hs
  have hb : 0 < b := by exact_mod_cast h0
  rw [sqrt_coe b hb, div_coe _ _ (Real.sqrt_ne_zero'.2 hb)]
  exact ⟨_, rfl⟩

theorem square_nonneg (x : EReal) : 0 ≤ x * x := by
  induction x with
  | bot => simp
  | top => simp
  | coe r => rw [← EReal.coe_mul]; exact_mod_cast mul_self_nonneg r

/-- Where the sum of the squares is finite every term is real. -/
theorem real_of_squares {n : ℕ} (f : Fin n → EReal) (h : ∑ i, f i * f i < ⊤) (i : Fin n) : IsReal (f i) := by
  have hi : f i * f i < ⊤ :=
    lt_of_le_of_lt (Finset.single_le_sum (f := fun i => f i * f i) (fun i _ => square_nonneg (f i)) (Finset.mem_univ i)) h
  generalize f i = x at hi
  induction x with
  | bot => simp at hi
  | top => simp at hi
  | coe r => exact ⟨r, rfl⟩

/-- An entry of a row divided by the row's length is real where the length is not zero: a row of infinite length gives zeros. -/
theorem unit_real {n : ℕ} (f : Fin n → EReal) (h : 0 < ∑ i, f i * f i) (i : Fin n) :
    IsReal (Ideal.div (f i) (Ideal.sqrt (∑ i, f i * f i))) := by
  rcases eq_or_lt_of_le (le_top : ∑ i, f i * f i ≤ ⊤) with e | hlt
  · rw [e]
    refine ⟨0, ?_⟩
    show (if (⊤ : EReal) = 0 then _ else f i * (⊤ : EReal)⁻¹) = _
    rw [if_neg (by simp), EReal.inv_top, mul_zero, EReal.coe_zero]
  · have hr := real_of_squares f hlt
    exact IsReal.unit (hr i) (IsReal.sum _ _ fun d _ => (hr d).mul (hr d)) h

end Cert.Proof.Reals

end
-- ==== Proof.ChainValue.lean ====
/-
  What the chunked accumulation of Chain comes to where every score is real: the shares of a column add up to one, so the
  kernel's mean of a column is one times the constant it multiplies by.
-/
module

public import proofs.«01_k».proof.Proof.Chain
public import proofs.«01_k».proof.Proof.Reals
public import Idealize.ShloMosaic.Lib.Pipeline.Value
public import Idealize.ShloMosaic.Lib.Pointwise.Reshape

@[expose] public section

noncomputable section

namespace Cert.Proof.Chain

open Cert.KernelIdeal Cert.KernelIdeal.Gen Cert.Proof.Reals
open Idealize.ShloMosaic

/-- The eight rows added to one are the sum of the eight entries of the column. -/
theorem halved_eq (x : FVec Ideal S8x2048 .f32) (j : Fin 2048) :
    (halved x (ValueIdx.ix2 0 j) : EReal) = ∑ r : Fin 8, (x (ValueIdx.ix2 r j) : EReal) := by
  have e : halved x (ValueIdx.ix2 0 j)
      = ((x (ValueIdx.ix2 0 j) + x (ValueIdx.ix2 4 j)) + (x (ValueIdx.ix2 2 j) + x (ValueIdx.ix2 6 j)))
        + ((x (ValueIdx.ix2 1 j) + x (ValueIdx.ix2 5 j)) + (x (ValueIdx.ix2 3 j) + x (ValueIdx.ix2 7 j))) := by
    have ew : ∀ (r : Fin 8) (i : S8x2048.Idx), (i 0).val = r.val → (i 1).val = j.val → x i = x (ValueIdx.ix2 r j) :=
      fun r i h0 h1 => congrArg x (funext fun a => Fin.ext (by
        match a with
        | ⟨0, _⟩ => exact h0
        | ⟨1, _⟩ => exact h1))
    refine congrArg₂ (· + ·) (congrArg₂ (· + ·) (congrArg₂ (· + ·) (ew 0 _ ?_ ?_) (ew 4 _ ?_ ?_))
        (congrArg₂ (· + ·) (ew 2 _ ?_ ?_) (ew 6 _ ?_ ?_)))
      (congrArg₂ (· + ·) (congrArg₂ (· + ·) (ew 1 _ ?_ ?_) (ew 5 _ ?_ ?_))
        (congrArg₂ (· + ·) (ew 3 _ ?_ ?_) (ew 7 _ ?_ ?_))) <;>
    first
      | rfl
      | exact Nat.zero_add _
      | (simp [ValueIdx.ix2])
  rw [e, Fin.sum_univ_eight]
  show (_ : EReal) = _
  abel

/-- The eight rows of real numbers added to one. -/
theorem halved_coe (x : FVec Ideal S8x2048 .f32) (g : Fin 8 → Fin 2048 → ℝ)
    (h : ∀ r j, x (ValueIdx.ix2 r j) = (g r j : EReal)) (j : Fin 2048) :
    halved x (ValueIdx.ix2 0 j) = ((∑ r, g r j : ℝ) : EReal) := by
  refine (halved_eq x j).trans ?_
  simp only [h, sum_coe]

/-- The chunks added are the sum over the chunks, entry by entry. -/
theorem added_coe (f : (k : ℕ) → k < 256 → FVec Ideal S8x2048 .f32) (g : ℕ → ℝ) (i : S8x2048.Idx)
    (h : ∀ k hk, f k hk i = (g k : EReal)) : ∀ n hn, added f n hn i = ((∑ k ∈ Finset.range (n + 1), g k : ℝ) : EReal)
  | 0, hn => by rw [Finset.sum_range_one]; exact h 0 hn
  | n + 1, hn => by
    rw [Finset.sum_range_succ, EReal.coe_add]
    exact congrArg₂ (· + ·) (added_coe f g i h n (Nat.lt_of_succ_lt hn)) (h (n + 1) hn)

/-- A real column has a real maximum. -/
theorem tops_real (st : FVec Ideal S2048x2048 .f32) (h : ∀ i, IsReal (st i)) (i : S1x2048.Idx) : IsReal (tops st i) := by
  have e : ∀ j, IsReal (multiReduction (F := Ideal) .maximumf [0] S2048 st 0xFF800000#32 reduces_S2048x2048_S2048 (.inl rfl) rfl j) := fun j => by
    refine (congrArg IsReal (Ideal.multiReduction_maximumf_single (s := S2048x2048) (a := 0) st 0xFF800000#32
      reduces_S2048x2048_S2048 (.inl rfl) rfl j)).mpr ?_
    exact IsReal.fold_max (Nat.zero_lt_succ 2047) _ fun k => h _
  exact IsReal.cast _ shapeCasts_S2048_S1x2048 e i

/-- The row that entry `r` of chunk `k` is taken from. -/
def rowOf (k : ℕ) (h : k < 256) (r : Fin 8) : Fin 2048 := ⟨8 * k + r.val, by omega⟩

theorem chunk_apply (st : FVec Ideal S2048x2048 .f32) (top : FVec Ideal S1x2048 .f32) (k : ℕ) (h : k < 256) (r : Fin 8)
    (j : Fin 2048) : chunk st top k h (ValueIdx.ix2 r j)
      = Ideal.exp (st (ValueIdx.ix2 (rowOf k h r) j) - top (ValueIdx.ix2 0 j)) := by
  refine congrArg Ideal.exp (congrArg₂ (· - ·) ?_ ?_)
  · refine extractStridedSlice_apply _ _ _ _ _ fun a => ?_
    match a with
    | ⟨0, _⟩ => rfl
    | ⟨1, _⟩ => exact (Nat.zero_add _).symm
  · refine broadcastTo_apply _ _ _ _ fun a => ?_
    match a with
    | ⟨0, _⟩ => rfl
    | ⟨1, _⟩ => rfl

theorem share_apply (st : FVec Ideal S2048x2048 .f32) (top den : FVec Ideal S1x2048 .f32) (k : ℕ) (h : k < 256) (r : Fin 8)
    (j : Fin 2048) : share st top den k h (ValueIdx.ix2 r j)
      = Ideal.div (chunk st top k h (ValueIdx.ix2 r j)) (den (ValueIdx.ix2 0 j)) := by
  refine congrArg (Ideal.div _) (broadcastTo_apply _ _ _ _ fun a => ?_)
  match a with
  | ⟨0, _⟩ => rfl
  | ⟨1, _⟩ => rfl

/-- The kernel's mean of a column of real scores: the shares add up to one. -/
theorem mean_real (st : FVec Ideal S2048x2048 .f32) (h : ∀ i, IsReal (st i)) (j : Fin 2048) :
    mean st (ValueIdx.ix2 0 j) = Ideal.ofBits .f32 0x3A000000#32 := by
  choose s hs using h
  choose t ht using tops_real st (fun i => ⟨s i, hs i⟩)
  let e : ℕ → Fin 8 → Fin 2048 → ℝ := fun k r j =>
    if h : k < 256 then Real.exp (s (ValueIdx.ix2 (rowOf k h r) j) - t (ValueIdx.ix2 0 j)) else 1
  have he : ∀ k hk r j, chunk st (tops st) k hk (ValueIdx.ix2 r j) = (e k r j : EReal) := fun k hk r j => by
    rw [chunk_apply, hs, ht, ← EReal.coe_sub, exp_coe]
    simp only [e, dif_pos hk]
  have hpos : ∀ k r j, 0 < e k r j := fun k r j => by
    simp only [e]
    split
    · exact Real.exp_pos _
    · exact one_pos
  have hpos' : ∀ j, 0 < ∑ r : Fin 8, ∑ k ∈ Finset.range 256, e k r j := fun j =>
    Finset.sum_pos (fun r _ => Finset.sum_pos (fun k _ => hpos k r j) ⟨0, by simp⟩) ⟨0, Finset.mem_univ _⟩
  obtain ⟨D, hDe⟩ : ∃ D : Fin 2048 → ℝ, ∀ j, ∑ r : Fin 8, ∑ k ∈ Finset.range 256, e k r j = D j := ⟨_, fun _ => rfl⟩
  have hD : ∀ j, den st (ValueIdx.ix2 0 j) = (D j : EReal) := fun j => by
    rw [← hDe]
    exact halved_coe _ (fun r j => ∑ k ∈ Finset.range 256, e k r j)
      (fun r j => added_coe _ (fun k => e k r j) _ (fun k hk => he k hk r j) 255 (by decide)) j
  have hD0 : ∀ j, D j ≠ 0 := fun j => by rw [← hDe]; exact (hpos' j).ne'
  have hsh : ∀ k hk r j, share st (tops st) (den st) k hk (ValueIdx.ix2 r j) = ((e k r j / D j : ℝ) : EReal) :=
    fun k hk r j => by rw [share_apply, he, hD, div_coe _ _ (hD0 j)]
  have hadd : ∀ r j, added (share st (tops st) (den st)) 255 (by decide) (ValueIdx.ix2 r j)
      = ((∑ k ∈ Finset.range 256, e k r j / D j : ℝ) : EReal) := fun r j =>
    added_coe _ (fun k => e k r j / D j) _ (fun k hk => hsh k hk r j) 255 (by decide)
  have hone : halved (added (share st (tops st) (den st)) 255 (by decide)) (ValueIdx.ix2 0 j) = ((1 : ℝ) : EReal) := by
    refine (halved_coe _ (fun r j => ∑ k ∈ Finset.range 256, e k r j / D j) hadd j).trans ?_
    congr 1
    simp only [← Finset.sum_div]
    rw [hDe]
    exact div_self (hD0 j)
  unfold mean
  rw [shapeCast_id]
  show halved (added (share st (tops st) (den st)) 255 (by decide)) (ValueIdx.ix2 0 j) * Ideal.ofBits .f32 0x3A000000#32 = _
  rw [hone, EReal.coe_one, one_mul]

end Cert.Proof.Chain

end
-- ==== Proof.Scores.lean ====
/-
  The kernel's scores are real where no flow row is zero: each row is divided by the root
  of its squared length, which the kernel adds up in four chunks of eight features, and the scores are finite sums of
  products of the quotients.
-/
module

public import proofs.«01_k».proof.Proof.ChainValue

@[expose] public section

noncomputable section

namespace Cert.Proof.Scores

open Cert.KernelIdeal Cert.KernelIdeal.Gen Cert.Proof.Reals
open Idealize.ShloMosaic

/-- The features as rows. -/
def feats (x : Vec Ideal S1x2048x32 .f32) : FVec Ideal S32x2048 .f32 :=
  transpose S32x2048 [1, 0] (shapeCast S2048x32 x shapeCasts_S1x2048x32_S2048x32 : FVec Ideal S2048x32 .f32)
    transposes_S2048x32_p1_0_S32x2048

/-- The four chunks of squares added. -/
def squares (x : Vec Ideal S1x2048x32 .f32) : FVec Ideal S8x2048 .f32 :=
  let q : FVec Ideal S32x2048 .f32 := mulf (feats x) (feats x)
  addf (addf (addf (extractStridedSlice S8x2048 ![0, 0] q slices_S32x2048_o0_0_S8x2048)
      (extractStridedSlice S8x2048 ![8, 0] q slices_S32x2048_o8_0_S8x2048))
    (extractStridedSlice S8x2048 ![16, 0] q slices_S32x2048_o16_0_S8x2048))
    (extractStridedSlice S8x2048 ![24, 0] q slices_S32x2048_o24_0_S8x2048)

/-- The rows divided by their lengths. -/
theorem pay3_eq (x : Vec Ideal S1x2048x32 .f32) : k0_pay3 (F := Ideal) x
    = transpose S2048x32 [1, 0] (divf (feats x) (broadcastTo S32x2048 (sqrt (Chain.halved (squares x))) broadcasts_S1x2048_S32x2048))
        transposes_S32x2048_p1_0_S2048x32 := rfl

theorem pay5_eq (x y : Vec Ideal S1x2048x32 .f32) : k0_pay5 (F := Ideal) x y
    = matmul dot_S2048x32_S2048x32_S2048x2048_1_1_0_0_n_n none (k0_pay3 x) (k0_pay3 y) (constant S2048x2048 .f32 0x00000000#32) := rfl

theorem feats_apply (x : Vec Ideal S1x2048x32 .f32) (d : Fin 32) (j : Fin 2048) :
    feats x (ValueIdx.ix2 d j) = x (ValueIdx.ix3 0 j d) := by
  refine (transpose_apply _ _ _ _ (ValueIdx.ix2 j d : S2048x32.Idx) fun b => ?_).trans (shapeCast_apply _ _ _ _ ?_)
  · match b with
    | ⟨0, _⟩ => rfl
    | ⟨1, _⟩ => rfl
  · rw [Shape.rowMajor_val_three, Shape.rowMajor_val_two]
    show (0 * 2048 + j.val) * 32 + d.val = j.val * 32 + d.val
    omega

/-- No row of the block is zero: every squared length is positive. -/
def Good (x : Vec Ideal S1x2048x32 .f32) : Prop :=
  ∀ j : Fin 2048, 0 < ∑ d : Fin 32, x (ValueIdx.ix3 0 j d) * x (ValueIdx.ix3 0 j d)

/-- A sum over the features in four chunks of eight. -/
theorem sum_chunks (f : Fin 32 → EReal) :
    ∑ r : Fin 8, (f ⟨r.val, by omega⟩ + f ⟨8 + r.val, by omega⟩ + f ⟨16 + r.val, by omega⟩ + f ⟨24 + r.val, by omega⟩) = ∑ d, f d := by
  have e : ∑ d : Fin 32, f d = ∑ p : Fin 4 × Fin 8, f (finProdFinEquiv p) := (Equiv.sum_comp (finProdFinEquiv (m := 4) (n := 8)) f).symm
  rw [e, Fintype.sum_prod_type_right]
  refine Finset.sum_congr rfl fun r _ => ?_
  rw [Fin.sum_univ_four]
  have ew : ∀ (k : Fin 4) (n : ℕ) (h : n < 32), n = r.val + 8 * k.val → f ⟨n, h⟩ = f (finProdFinEquiv (k, r)) :=
    fun k n h hn => congrArg f (Fin.ext hn)
  exact congrArg₂ (· + ·) (congrArg₂ (· + ·) (congrArg₂ (· + ·) (ew 0 _ _ (by show r.val = r.val + 8 * 0; omega))
    (ew 1 _ _ (by show 8 + r.val = r.val + 8 * 1; omega))) (ew 2 _ _ (by show 16 + r.val = r.val + 8 * 2; omega)))
    (ew 3 _ _ (by show 24 + r.val = r.val + 8 * 3; omega))

theorem squares_apply (x : Vec Ideal S1x2048x32 .f32) (r : Fin 8) (j : Fin 2048) (f : Fin 32 → EReal)
    (hf : ∀ d, feats x (ValueIdx.ix2 d j) = f d) : squares x (ValueIdx.ix2 r j)
      = f ⟨r.val, by omega⟩ * f ⟨r.val, by omega⟩ + f ⟨8 + r.val, by omega⟩ * f ⟨8 + r.val, by omega⟩
        + f ⟨16 + r.val, by omega⟩ * f ⟨16 + r.val, by omega⟩ + f ⟨24 + r.val, by omega⟩ * f ⟨24 + r.val, by omega⟩ := by
  simp only [← hf]
  have es : ∀ (o : ℕ) (h : S32x2048.Slices ![o, 0] S8x2048) (d : Fin 32), d.val = o + r.val →
      extractStridedSlice S8x2048 ![o, 0] (mulf (feats x) (feats x) : FVec Ideal S32x2048 .f32) h (ValueIdx.ix2 r j)
        = feats x (ValueIdx.ix2 d j) * feats x (ValueIdx.ix2 d j) := fun o h d hd =>
    extractStridedSlice_apply _ _ _ _ (ValueIdx.ix2 d j : S32x2048.Idx) fun a => by
      match a with
      | ⟨0, _⟩ => exact hd
      | ⟨1, _⟩ => exact (Nat.zero_add _).symm
  exact congrArg₂ (· + ·) (congrArg₂ (· + ·) (congrArg₂ (· + ·) (es 0 _ _ (Nat.zero_add _).symm) (es 8 _ _ rfl)) (es 16 _ _ rfl))
    (es 24 _ _ rfl)

/-- The quotients are real. -/
theorem pay3_real (x : Vec Ideal S1x2048x32 .f32) (h : Good x) (i : S2048x32.Idx) : IsReal (k0_pay3 (F := Ideal) x i) := by
  obtain ⟨j, d, rfl⟩ : ∃ j d, i = ValueIdx.ix2 j d := ⟨i 0, i 1, funext fun a => by
    match a with
    | ⟨0, _⟩ => rfl
    | ⟨1, _⟩ => rfl⟩
  have hlen : Chain.halved (squares x) (ValueIdx.ix2 0 j) = ∑ d : Fin 32, x (ValueIdx.ix3 0 j d) * x (ValueIdx.ix3 0 j d) :=
    (Chain.halved_eq _ j).trans ((Finset.sum_congr rfl fun r _ =>
      squares_apply x r j (fun d => x (ValueIdx.ix3 0 j d)) fun d => feats_apply x d j).trans
        (sum_chunks fun d => x (ValueIdx.ix3 0 j d) * x (ValueIdx.ix3 0 j d)))
  rw [pay3_eq]
  have e : transpose S2048x32 [1, 0] (divf (feats x) (broadcastTo S32x2048 (sqrt (Chain.halved (squares x))) broadcasts_S1x2048_S32x2048))
        transposes_S32x2048_p1_0_S2048x32 (ValueIdx.ix2 j d)
      = Ideal.div (feats x (ValueIdx.ix2 d j)) (Ideal.sqrt (Chain.halved (squares x) (ValueIdx.ix2 0 j))) := by
    refine (transpose_apply _ _ _ _ (ValueIdx.ix2 d j : S32x2048.Idx) fun b => ?_).trans
      (congrArg (Ideal.div _) (broadcastTo_apply _ _ _ (ValueIdx.ix2 0 j : S1x2048.Idx) fun a => ?_))
    · match b with
      | ⟨0, _⟩ => rfl
      | ⟨1, _⟩ => rfl
    · match a with
      | ⟨0, _⟩ => rfl
      | ⟨1, _⟩ => rfl
  rw [e, hlen, feats_apply]
  exact unit_real (fun d => x (ValueIdx.ix3 0 j d)) (h j) d

theorem dot_real (a b : FVec Ideal S2048x32 .f32) (ha : ∀ i, IsReal (a i)) (hb : ∀ i, IsReal (b i)) (i : S2048x2048.Idx) :
    IsReal (matmul dot_S2048x32_S2048x32_S2048x2048_1_1_0_0_n_n none a b (constant S2048x2048 .f32 0x00000000#32) i) := by
  refine (congrArg IsReal (Ideal.matmul_constant_zero_apply _ none a b i)).mpr ?_
  exact IsReal.sum _ _ fun k _ => (ha _).mul (hb _)

/-- The intra scores are real. -/
theorem intra_real (x : Vec Ideal S1x2048x32 .f32) (h : Good x) (i : S2048x2048.Idx) : IsReal (k0_pay4 (F := Ideal) x i) :=
  dot_real _ _ (pay3_real x h) (pay3_real x h) i

/-- The inter scores are real. -/
theorem inter_real (x y : Vec Ideal S1x2048x32 .f32) (hx : Good x) (hy : Good y) (i : S2048x2048.Idx) :
    IsReal (k0_pay5 (F := Ideal) x y i) := by
  rw [pay5_eq]
  exact dot_real _ _ (pay3_real x hx) (pay3_real y hy) i

end Cert.Proof.Scores

end
-- ==== Proof.Selection.lean ====
/-
  The eight rounds on a row of equal means: each round takes the first position not taken yet, since a taken one is
  overwritten with an infinity that the next search passes over. So the words are 0 .. 7.
-/
module

public import proofs.«01_k».proof.Proof.Scores
public import proofs.«01_k».proof.Proof.Body

@[expose] public section

noncomputable section

namespace Cert.Proof.Selection

open Cert.KernelIdeal Cert.KernelIdeal.Gen Cert.Proof.Reals
open Idealize.ShloMosaic

/-- The constant the kernel multiplies a column's sum by, 2 to the power −11. -/
def unit : EReal := Ideal.ofBits .f32 0x3A000000#32

theorem unit_real : unit = (((1 : ℝ) / 2048 : ℝ) : EReal) := by
  unfold unit
  simp [Ideal.ofBits, Ideal.ieee]
  rw [← EReal.coe_mul]
  norm_num

theorem unit_lt_top : unit < ⊤ := by rw [unit_real]; exact EReal.coe_lt_top _
theorem bot_lt_unit : ⊥ < unit := by rw [unit_real]; exact EReal.bot_lt_coe _

/-- Where the first `n` entries hold the infinity and every other one holds `c`, the search for the least finds position `n`. -/
theorem wordLo_taken (m : Words.Row) (c : EReal) (hc : c < ⊤) (n : ℕ) (hn : n < 2048)
    (hm : ∀ j : Fin 2048, m (ValueIdx.ix2 0 j) = if j.val < n then ⊤ else c) : Words.wordLo m = BitVec.ofNat 32 n := by
  obtain ⟨k, hk, hle, hfst⟩ := Pick.least_spec m
  have h1 : m (ValueIdx.ix2 0 ⟨n, hn⟩) = c := by rw [hm, if_neg (lt_irrefl n)]
  have hkn : ¬ k.val < n := fun h => by
    have := hle ⟨n, hn⟩
    rw [h1, hm, if_pos h] at this
    exact absurd hc (not_lt.2 this)
  have hkc : m (ValueIdx.ix2 0 k) = c := by rw [hm, if_neg hkn]
  have h2 : k ≤ ⟨n, hn⟩ := hfst _ (h1.trans hkc.symm)
  have hkv : k.val = n := le_antisymm h2 (not_lt.1 hkn)
  rw [hkv] at hk
  exact hk

/-- A row of equal means after `n` rounds of the search for the least. -/
theorem rowLo_const (m : Words.Row) (c : EReal) (hc : c < ⊤) (hm : ∀ j, m (ValueIdx.ix2 0 j) = c) :
    ∀ n, n ≤ 8 → ∀ j : Fin 2048, Words.rowLo m n (ValueIdx.ix2 0 j) = if j.val < n then ⊤ else c
  | 0, _, j => by rw [if_neg (by omega)]; exact hm j
  | n + 1, hn, j => by
    have ih := rowLo_const m c hc hm n (by omega)
    have hn' : n < 2048 := by omega
    have hk := wordLo_taken _ c hc n hn' ih
    have e : Words.rowLo m (n + 1) = Pick.masked (Scalar.ofBits (F := Ideal) .f32 0x7F800000#32) (Words.rowLo m n)
        (BitVec.ofNat 32 (⟨n, hn'⟩ : Fin 2048).val) :=
      congrArg (Pick.masked _ _) hk
    rw [e, Pick.masked_apply, ih]
    by_cases hj : j = ⟨n, hn'⟩
    · subst hj; rw [if_pos rfl, if_pos (by simp)]; rfl
    · have : j.val ≠ n := fun h => hj (Fin.ext h)
      rw [if_neg hj]
      by_cases h3 : j.val < n
      · rw [if_pos h3, if_pos (by omega)]
      · rw [if_neg h3, if_neg (by omega)]

/-- The word of round `n` of the search for the least. -/
theorem wordLo_const (m : Words.Row) (c : EReal) (hc : c < ⊤) (hm : ∀ j, m (ValueIdx.ix2 0 j) = c) (n : ℕ) (hn : n < 8) :
    Words.wordLo (Words.rowLo m n) = BitVec.ofNat 32 n :=
  wordLo_taken _ c hc n (by omega) (rowLo_const m c hc hm n hn.le)

/-- Where the first `n` entries hold the infinity and every other one holds `c`, the search for the greatest finds position `n`. -/
theorem wordHi_taken (m : Words.Row) (c : EReal) (hc : ⊥ < c) (n : ℕ) (hn : n < 2048)
    (hm : ∀ j : Fin 2048, m (ValueIdx.ix2 0 j) = if j.val < n then ⊥ else c) : Words.wordHi m = BitVec.ofNat 32 n := by
  obtain ⟨k, hk, hle, hfst⟩ := Pick.greatest_spec m
  have h1 : m (ValueIdx.ix2 0 ⟨n, hn⟩) = c := by rw [hm, if_neg (lt_irrefl n)]
  have hkn : ¬ k.val < n := fun h => by
    have := hle ⟨n, hn⟩
    rw [h1, hm, if_pos h] at this
    exact absurd hc (not_lt.2 this)
  have hkc : m (ValueIdx.ix2 0 k) = c := by rw [hm, if_neg hkn]
  have h2 : k ≤ ⟨n, hn⟩ := hfst _ (h1.trans hkc.symm)
  have hkv : k.val = n := le_antisymm h2 (not_lt.1 hkn)
  rw [hkv] at hk
  exact hk

/-- A row of equal means after `n` rounds of the search for the greatest. -/
theorem rowHi_const (m : Words.Row) (c : EReal) (hc : ⊥ < c) (hm : ∀ j, m (ValueIdx.ix2 0 j) = c) :
    ∀ n, n ≤ 8 → ∀ j : Fin 2048, Words.rowHi m n (ValueIdx.ix2 0 j) = if j.val < n then ⊥ else c
  | 0, _, j => by rw [if_neg (by omega)]; exact hm j
  | n + 1, hn, j => by
    have ih := rowHi_const m c hc hm n (by omega)
    have hn' : n < 2048 := by omega
    have hk := wordHi_taken _ c hc n hn' ih
    have e : Words.rowHi m (n + 1) = Pick.masked (Scalar.ofBits (F := Ideal) .f32 0xFF800000#32) (Words.rowHi m n)
        (BitVec.ofNat 32 (⟨n, hn'⟩ : Fin 2048).val) :=
      congrArg (Pick.masked _ _) hk
    rw [e, Pick.masked_apply, ih]
    by_cases hj : j = ⟨n, hn'⟩
    · subst hj; rw [if_pos rfl, if_pos (by simp)]; rfl
    · have : j.val ≠ n := fun h => hj (Fin.ext h)
      rw [if_neg hj]
      by_cases h3 : j.val < n
      · rw [if_pos h3, if_pos (by omega)]
      · rw [if_neg h3, if_neg (by omega)]

/-- The word of round `n` of the search for the greatest. -/
theorem wordHi_const (m : Words.Row) (c : EReal) (hc : ⊥ < c) (hm : ∀ j, m (ValueIdx.ix2 0 j) = c) (n : ℕ) (hn : n < 8) :
    Words.wordHi (Words.rowHi m n) = BitVec.ofNat 32 n :=
  wordHi_taken _ c hc n (by omega) (rowHi_const m c hc hm n hn.le)

theorem flat_row (x : Words.Row) : k0_pay226 (F := Ideal) x = x := by
  show shapeCast S1x2048 (shapeCast S2048 x _) _ = x
  rw [shapeCast_comp, shapeCast_id]

theorem flat_row' (x : Words.Row) : k0_pay252 (F := Ideal) x = x := by
  show shapeCast S1x2048 (shapeCast S2048 x _) _ = x
  rw [shapeCast_comp, shapeCast_id]

/-- The intra words of a batch element none of whose flow rows is zero. -/
theorem loAt_eq (x : Vec Ideal S1x2048x32 .f32) (h : Scores.Good x) (r : Fin 8) : Body.loAt x r = BitVec.ofNat 32 r.val :=
  wordLo_const _ unit unit_lt_top (fun j => by
    unfold Body.intra
    rw [flat_row]
    exact Chain.mean_real _ (Scores.intra_real x h) j) r.val r.isLt

/-- The inter words of a batch element none of whose flow rows is zero. -/
theorem hiAt_eq (x y : Vec Ideal S1x2048x32 .f32) (hx : Scores.Good x) (hy : Scores.Good y) (r : Fin 8) :
    Body.hiAt x y r = BitVec.ofNat 32 r.val :=
  wordHi_const _ unit bot_lt_unit (fun j => by
    unfold Body.inter
    rw [flat_row']
    exact Chain.mean_real _ (Scores.inter_real x y hx hy) j) r.val r.isLt

end Cert.Proof.Selection

end
-- ==== Proof.RefTerm.lean ====
/-
  The reference's two results as the steps of the mathematics: unit rows, scores, softmax along the last axis, its mean,
  the eight chosen positions and the rows read at them. Each result of the reference's run is these steps composed.
-/
module

public import proofs.«01_k».proof.Proof.Gen.ReferenceIdeal
public import proofs.«01_k».proof.Proof.Gen.ReferenceIdeal.Run
public import Idealize.ShloMosaic.PureOps.Ideal

@[expose] public section

noncomputable section

namespace Cert.Proof.Ref

open Cert.ReferenceIdeal Cert.ReferenceIdeal.Gen
open Idealize.ShloMosaic Idealize.ShloMosaic.TcCoe

/-- Each row divided by its length. -/
def norm (x : FVec Ideal S8x2048x32 .f32) : FVec Ideal S8x2048x32 .f32 :=
  Host.divf x (broadcastInDim S8x2048x32 ![0, 1, 2] bcast_S8x2048x1_S8x2048x32_0_1_2 (Host.sqrt (broadcastInDim S8x2048x1 ![0, 1] bcast_S8x2048_S8x2048x1_0_1 (Host.reduceAdd (mulf x x) (constant S_ .f32 0x00000000#32) reducesTo_S8x2048x32_S8x2048_d2 h_S_))))

/-- The scores of every row of `y` against every row of `x`. -/
def scores (y x : FVec Ideal S8x2048x32 .f32) : FVec Ideal S8x2048x2048 .f32 :=
  Host.dotGeneral dot_S8x2048x32_S8x32x2048_S8x2048x2048_2_1_1_2_0_0 none (norm y) (transpose S8x32x2048 [0, 2, 1] (norm x) transposes_S8x2048x32_S8x32x2048_0_2_1)

/-- A value per row, at every entry of the row. -/
def across (v : FVec Ideal S8x2048 .f32) : FVec Ideal S8x2048x2048 .f32 :=
  broadcastInDim S8x2048x2048 ![0, 1, 2] bcast_S8x2048x1_S8x2048x2048_0_1_2 (broadcastInDim S8x2048x1 ![0, 1] bcast_S8x2048_S8x2048x1_0_1 v)

/-- The greatest score of each row. -/
def peak (s : FVec Ideal S8x2048x2048 .f32) : FVec Ideal S8x2048 .f32 :=
  maximumf (broadcastInDim S8x2048 ![] bcast_S_S8x2048 (constant S_ .f32 0xFF800000#32)) (Host.reduce FloatOps.maximumf s (constant S_ .f32 0xFF800000#32) reducesTo_S8x2048x2048_S8x2048_d2 h_S_)

/-- The exponentials of the scores, each row's greatest subtracted first. -/
def expo (s : FVec Ideal S8x2048x2048 .f32) : FVec Ideal S8x2048x2048 .f32 := Host.exp (subf s (across (peak s)))

/-- A row's sum. -/
def total (e : FVec Ideal S8x2048x2048 .f32) : FVec Ideal S8x2048 .f32 :=
  Host.reduceAdd e (constant S_ .f32 0x00000000#32) reducesTo_S8x2048x2048_S8x2048_d2 h_S_

/-- The mean of each row's softmax. -/
def softmean (s : FVec Ideal S8x2048x2048 .f32) : FVec Ideal S8x2048 .f32 :=
  Host.divf (total (Host.divf (expo s) (across (total (expo s))))) (broadcastInDim S8x2048 ![] bcast_S_S8x2048 (constant S_ .f32 0x45000000#32))

/-- The eight greatest entries' positions of each row. -/
def top (v : FVec Ideal S8x2048 .f32) : IVec S8x8 32 := (Host.topK S8x8 1 (FloatOps.cmpfTotal .gt) v sliceFits_S8x2048_S8x8).2

/-- A position per chosen row, at every feature. -/
def wide (w : IVec S8x8 32) : IVec S8x8x32 32 :=
  broadcastInDim S8x8x32 ![0, 1, 2] bcast_S8x8x1_S8x8x32_0_1_2 (broadcastInDim S8x8x1 ![0, 1] bcast_S8x8_S8x8x1_0_1 w)

/-- A negative position counts from the end. -/
def wrapped (W : IVec S8x8x32 32) : IVec S8x8x32x1 32 :=
  shapeCast _ (select (cmpi .slt W (broadcastInDim S8x8x32 ![] bcast_S_S8x8x32 (constantI S_ 32 0#32))) (addi W (broadcastInDim S8x8x32 ![] bcast_S_S8x8x32 (constantI S_ 32 2048#32))) W) shapeCasts_S8x8x32_S8x8x32x1

/-- The entries of `x` at the positions `I`, and the constant not-a-number where a position is out of range. -/
def taken (x : FVec Ideal S8x2048x32 .f32) (I : IVec S8x8x32x1 32) : FVec Ideal S8x8x32 .f32 :=
  select (Host.reduce IntOp.andi (andi (cmpi .sge I (broadcastInDim S8x8x32x1 ![] bcast_S_S8x8x32x1 (constantI S_ 32 0#32)))
      (cmpi .sle I (broadcastInDim S8x8x32x1 ![0, 1, 2, 3] bcast_S1x1x1x1_S8x8x32x1_0_1_2_3 (broadcastInDim S1x1x1x1 ![3] bcast_S1_S1x1x1x1_3 (constantI S1 32 2047#32)))))
      (constantI S_ 1 1#1) reducesTo_S8x8x32x1_S8x8x32_d3 h_S_)
    (Host.gather gather_S8x2048x32_S8x8x32x1_S8x8x32_n_1_02_02_1_3_111 x I)
    (broadcastInDim S8x8x32 ![] bcast_S_S8x8x32 (constant S_ .f32 0x7FC00000#32))

set_option maxRecDepth 8192 in
set_option maxHeartbeats 4000000 in
/-- The first result: the rows of the first argument at the least means. -/
theorem out0_eq (m : (ℓ : Loc nD τ sig) → Buf (Elt Ideal) ℓ) (c : Dev nD) :
    Value.res_main_v22 m c = taken (m ((c.tc : Thread nD τ).loc main_arg0))
      (wrapped (wide (top (Host.negf (softmean (scores (m ((c.tc : Thread nD τ).loc main_arg1)) (m ((c.tc : Thread nD τ).loc main_arg1)))))))) := by
  unfold Value.res_main_v22; rfl

set_option maxRecDepth 8192 in
set_option maxHeartbeats 4000000 in
/-- The second result: the rows of the third argument at the greatest means. -/
theorem out1_eq (m : (ℓ : Loc nD τ sig) → Buf (Elt Ideal) ℓ) (c : Dev nD) :
    Value.res_main_v44 m c = taken (m ((c.tc : Thread nD τ).loc main_arg2))
      (wrapped (wide (top (softmean (scores (m ((c.tc : Thread nD τ).loc main_arg3)) (m ((c.tc : Thread nD τ).loc main_arg1))))))) := by
  unfold Value.res_main_v44; rfl

end Cert.Proof.Ref

end
-- ==== Proof.RefMean.lean ====
/-
  The reference's means over exact arithmetic where no flow row is zero: the scores are real,
  a row's softmax adds up to one, and its mean is one over the row's length.
-/
module

public import proofs.«01_k».proof.Proof.RefTerm
public import proofs.«01_k».proof.Proof.Reals
public import Idealize.ShloMosaic.Lib.Pipeline.Value
public import Idealize.ShloMosaic.Lib.IdealHost
public import Idealize.ShloMosaic.Lib.KernelVsHost

@[expose] public section

noncomputable section

namespace Cert.Proof.Ref

open Cert.ReferenceIdeal Cert.ReferenceIdeal.Gen Cert.Proof.Reals
open Idealize.ShloMosaic

/-- No row is zero: every squared length is positive. -/
def Good (x : FVec Ideal S8x2048x32 .f32) : Prop :=
  ∀ (b : Fin 8) (j : Fin 2048), 0 < ∑ d : Fin 32, x (ValueIdx.ix3 b j d) * x (ValueIdx.ix3 b j d)

theorem reduces_feats : S8x2048x32.Reduces [2] S8x2048 := by decide
theorem reduces_scores : S8x2048x2048.Reduces [2] S8x2048 := by decide

theorem zero_word : Ideal.ofBits .f32 0x00000000#32 = 0 := by simp [Ideal.ofBits, Ideal.ieee]

/-- The squared length of a row. -/
theorem length_apply (x : FVec Ideal S8x2048x32 .f32) (b : Fin 8) (j : Fin 2048) :
    Host.reduceAdd (mulf x x) (constant S_ .f32 0x00000000#32) reducesTo_S8x2048x32_S8x2048_d2 h_S_ (ValueIdx.ix2 b j)
      = ∑ d : Fin 32, x (ValueIdx.ix3 b j d) * x (ValueIdx.ix3 b j d) := by
  refine (Ideal.hostReduceAdd_single reducesTo_S8x2048x32_S8x2048_d2 reduces_feats _ _ _).trans ?_
  refine (congrArg₂ (· + ·) zero_word (Finset.sum_congr rfl fun d _ => ?_)).trans (zero_add _)
  have e : reduces_feats.lift (ValueIdx.ix2 b j) d = ValueIdx.ix3 b j d := funext fun a => by
    match a with
    | ⟨0, _⟩ => rfl
    | ⟨1, _⟩ => rfl
    | ⟨2, _⟩ => rfl
  rw [e]; rfl

/-- The sum of a row. -/
theorem total_apply (e : FVec Ideal S8x2048x2048 .f32) (b : Fin 8) (j : Fin 2048) :
    total e (ValueIdx.ix2 b j) = ∑ k : Fin 2048, e (ValueIdx.ix3 b j k) := by
  refine (Ideal.hostReduceAdd_single reducesTo_S8x2048x2048_S8x2048_d2 reduces_scores _ _ _).trans ?_
  refine (congrArg₂ (· + ·) zero_word (Finset.sum_congr rfl fun d _ => ?_)).trans (zero_add _)
  refine congrArg e (funext fun a => ?_)
  match a with
  | ⟨0, _⟩ => rfl
  | ⟨1, _⟩ => rfl
  | ⟨2, _⟩ => rfl

/-- A row's value at an entry of the row. -/
theorem across_apply (v : FVec Ideal S8x2048 .f32) (b : Fin 8) (j k : Fin 2048) :
    across v (ValueIdx.ix3 b j k) = v (ValueIdx.ix2 b j) := by
  refine (broadcastInDim_apply _ _ _ _ (ValueIdx.ix3 b j (0 : Fin 1) : S8x2048x1.Idx) fun a => ?_).trans
    (broadcastInDim_apply _ _ _ _ (ValueIdx.ix2 b j : S8x2048.Idx) fun a => ?_)
  · match a with
    | ⟨0, _⟩ => rfl
    | ⟨1, _⟩ => rfl
    | ⟨2, _⟩ => rfl
  · match a with
    | ⟨0, _⟩ => rfl
    | ⟨1, _⟩ => rfl

theorem eq_ix3 {n m k : ℕ} (i : Shape.Idx ⟨3, ![n, m, k]⟩) : i = ValueIdx.ix3 (i 0) (i 1) (i 2) := funext fun a => by
  match a with
  | ⟨0, _⟩ => rfl
  | ⟨1, _⟩ => rfl
  | ⟨2, _⟩ => rfl

/-- The entries of the unit rows are real. -/
theorem norm_real (x : FVec Ideal S8x2048x32 .f32) (h : Good x) (i : S8x2048x32.Idx) : IsReal (norm x i) := by
  obtain ⟨b, j, d, rfl⟩ : ∃ (b : Fin 8) (j : Fin 2048) (d : Fin 32), i = ValueIdx.ix3 b j d := ⟨_, _, _, eq_ix3 i⟩
  have e : norm x (ValueIdx.ix3 b j d) = Ideal.div (x (ValueIdx.ix3 b j d))
      (Ideal.sqrt (∑ d : Fin 32, x (ValueIdx.ix3 b j d) * x (ValueIdx.ix3 b j d))) := by
    refine congrArg (Ideal.div _) ((broadcastInDim_apply _ _ _ _ (ValueIdx.ix3 b j (0 : Fin 1) : S8x2048x1.Idx) fun a => ?_).trans
      (congrArg Ideal.sqrt ((broadcastInDim_apply _ _ _ _ (ValueIdx.ix2 b j : S8x2048.Idx) fun a => ?_).trans (length_apply x b j))))
    · match a with
      | ⟨0, _⟩ => rfl
      | ⟨1, _⟩ => rfl
      | ⟨2, _⟩ => rfl
    · match a with
      | ⟨0, _⟩ => rfl
      | ⟨1, _⟩ => rfl
  rw [e]
  exact unit_real (fun d => x (ValueIdx.ix3 b j d)) (h b j) d

/-- The scores are real. -/
theorem scores_real (y x : FVec Ideal S8x2048x32 .f32) (hy : Good y) (hx : Good x) (i : S8x2048x2048.Idx) :
    IsReal (scores y x i) := by
  unfold scores
  simp only [Host.dotGeneral]
  refine (congrArg IsReal (Ideal.dotGeneral_apply _ none _ _ _ i)).mpr ?_
  refine IsReal.sum _ _ fun k _ => (norm_real y hy _).mul ?_
  unfold transpose
  exact norm_real x hx _

/-- The greatest score of each row, folded from −∞. -/
def lead (s : FVec Ideal S8x2048x2048 .f32) : FVec Ideal S8x2048 .f32 :=
  Host.reduce FloatOps.maximumf s (constant S_ .f32 0xFF800000#32) reducesTo_S8x2048x2048_S8x2048_d2 h_S_

theorem lead_real (s : FVec Ideal S8x2048x2048 .f32) (h : ∀ i, IsReal (s i)) (i : S8x2048.Idx) : IsReal (lead s i) := by
  unfold lead
  rw [hostReduce_maximumf_eq_multiReduction s 0xFF800000#32 reducesTo_S8x2048x2048_S8x2048_d2 h_S_ reduces_scores (.inl rfl) rfl]
  refine (congrArg IsReal (Ideal.multiReduction_maximumf_single (s := S8x2048x2048) (a := 2) s 0xFF800000#32
    reduces_scores (.inl rfl) rfl i)).mpr ?_
  exact IsReal.fold_max (Nat.zero_lt_succ 2047) _ fun k => h _

/-- The maximum with −∞. -/
theorem maximumf_bot {s : Shape} (a b : FVec Ideal s .f32) (i : s.Idx) (h : a i = (⊥ : EReal)) : maximumf a b i = b i := by
  show max (a i : EReal) (b i) = b i
  rw [h]
  exact max_eq_right bot_le

theorem bot_word : Ideal.ofBits .f32 0xFF800000#32 = ⊥ := rfl

theorem bot_apply (i : S8x2048.Idx) :
    broadcastInDim S8x2048 ![] bcast_S_S8x2048 (constant (F := Ideal) S_ .f32 0xFF800000#32) i = (⊥ : EReal) :=
  (ValueIdx.broadcastInDim_scalar_apply bcast_S_S8x2048 (constant (F := Ideal) S_ .f32 0xFF800000#32) i).trans bot_word

/-- A row of real scores has a real maximum. -/
theorem peak_real (s : FVec Ideal S8x2048x2048 .f32) (h : ∀ i, IsReal (s i)) (i : S8x2048.Idx) : IsReal (peak s i) := by
  have e : peak s = maximumf (broadcastInDim S8x2048 ![] bcast_S_S8x2048 (constant (F := Ideal) S_ .f32 0xFF800000#32)) (lead s) := by
    unfold peak lead; with_reducible rfl
  rw [e, maximumf_bot _ _ _ (bot_apply i)]
  exact lead_real s h i

/-- One over the row's length. -/
def mean : EReal := Ideal.div 1 (Ideal.ofBits .f32 0x45000000#32)

/-- The mean of a row's softmax. -/
theorem softmean_real (s : FVec Ideal S8x2048x2048 .f32) (h : ∀ i, IsReal (s i)) (i : S8x2048.Idx) : softmean s i = mean := by
  obtain ⟨b, j, rfl⟩ : ∃ (b : Fin 8) (j : Fin 2048), i = ValueIdx.ix2 b j := ⟨i 0, i 1, funext fun a => by
    match a with
    | ⟨0, _⟩ => rfl
    | ⟨1, _⟩ => rfl⟩
  choose f hf using h
  choose p hp using peak_real s (fun i => ⟨f i, hf i⟩)
  have he : ∀ k, expo s (ValueIdx.ix3 b j k) = ((Real.exp (f (ValueIdx.ix3 b j k) - p (ValueIdx.ix2 b j)) : ℝ) : EReal) := fun k => by
    have e1 : expo s (ValueIdx.ix3 b j k) = Ideal.exp (s (ValueIdx.ix3 b j k) - across (peak s) (ValueIdx.ix3 b j k)) := rfl
    rw [e1, across_apply, hf, hp, ← EReal.coe_sub, exp_coe]
  obtain ⟨g, hg⟩ : ∃ g : Fin 2048 → ℝ, ∀ k, Real.exp (f (ValueIdx.ix3 b j k) - p (ValueIdx.ix2 b j)) = g k := ⟨_, fun _ => rfl⟩
  have hg0 : 0 < ∑ k, g k := Finset.sum_pos (fun k _ => by rw [← hg]; exact Real.exp_pos _) ⟨0, Finset.mem_univ _⟩
  have ht : total (expo s) (ValueIdx.ix2 b j) = ((∑ k, g k : ℝ) : EReal) := by
    rw [total_apply]
    simp only [he, hg, sum_coe]
  obtain ⟨D, hD⟩ : ∃ D : ℝ, ∑ k, g k = D := ⟨_, rfl⟩
  rw [hD] at hg0 ht
  have hq : ∀ k, Host.divf (expo s) (across (total (expo s))) (ValueIdx.ix3 b j k) = ((g k / D : ℝ) : EReal) := fun k => by
    have e1 : Host.divf (expo s) (across (total (expo s))) (ValueIdx.ix3 b j k)
      = Ideal.div (expo s (ValueIdx.ix3 b j k)) (across (total (expo s)) (ValueIdx.ix3 b j k)) := rfl
    rw [e1, across_apply, ht, he, hg, div_coe _ _ hg0.ne']
  have hone : total (Host.divf (expo s) (across (total (expo s)))) (ValueIdx.ix2 b j) = 1 := by
    rw [total_apply]
    simp only [hq, sum_coe, ← Finset.sum_div]
    rw [hD, div_self hg0.ne', EReal.coe_one]
  have e2 : softmean s (ValueIdx.ix2 b j) = Ideal.div (total (Host.divf (expo s) (across (total (expo s)))) (ValueIdx.ix2 b j))
      (broadcastInDim S8x2048 ![] bcast_S_S8x2048 (constant (F := Ideal) S_ .f32 0x45000000#32) (ValueIdx.ix2 b j)) := rfl
  rw [e2, hone]
  exact congrArg (Ideal.div 1) (ValueIdx.broadcastInDim_scalar_apply bcast_S_S8x2048 (constant (F := Ideal) S_ .f32 0x45000000#32) (ValueIdx.ix2 b j))

end Cert.Proof.Ref

end
-- ==== Proof.RefTake.lean ====
/-
  The reference's selection where a row's means are all equal: a stable sort of equal entries moves nothing, so the eight
  positions are 0 .. 7, and reading the rows at them gives the first eight rows.
-/
module

public import proofs.«01_k».proof.Proof.RefTerm
public import Idealize.ShloMosaic.Lib.Pipeline.Value
public import Idealize.ShloMosaic.Lib.IdealHost
public import Idealize.ShloMosaic.Lib.Pointwise.Reshape
public import Idealize.ShloMosaic.Lib.ReduceAll

@[expose] public section

noncomputable section

namespace Cert.Proof.Ref

open Cert.ReferenceIdeal Cert.ReferenceIdeal.Gen
open Idealize.ShloMosaic

/-- A stable sort that puts no entry before another leaves the list. -/
theorem stableSort_none {ι : Type} (before : ι → ι → Bool) (h : ∀ a b, before a b = false) : ∀ l : List ι, stableSort before l = l
  | [] => rfl
  | a :: l => by
    unfold stableSort
    rw [stableSort_none before h l]
    cases l with
    | nil => rfl
    | cons b l => unfold insertBefore; rw [h]; rfl

theorem sortedFrom_none {n : ℕ} (before : Fin n → Fin n → Bool) (h : ∀ a b, before a b = false) (k : Fin n) :
    sortedFrom before k = k := by
  have e : sortPositions n before = List.finRange n := stableSort_none before h _
  unfold sortedFrom
  rw [List.get_eq_getElem, List.getElem_of_eq e, List.getElem_finRange]
  rfl

/-- The positions of a row of equal entries. -/
theorem top_const (v : FVec Ideal S8x2048 .f32) (c : EReal) (hv : ∀ i, v i = c) (b r : Fin 8) :
    top v (ValueIdx.ix2 b r) = BitVec.ofNat 32 r.val := by
  have hr : r.val < 2048 := by omega
  unfold top Host.topK
  dsimp only
  refine (extractStridedSlice_apply _ _ _ _ (ValueIdx.ix2 b (⟨r.val, hr⟩ : Fin 2048) : S8x2048.Idx) fun a => ?_).trans ?_
  · match a with
    | ⟨0, _⟩ => exact (Nat.zero_add _).symm
    | ⟨1, _⟩ => exact (Nat.zero_add _).symm
  · unfold Host.sort2
    rw [dif_pos (show 1 < S8x2048.rank by decide)]
    dsimp only
    rw [sortedFrom_none]
    · rw [dif_pos (show 1 < S8x2048.rank by decide)]
      rfl
    · intro k k'
      rw [Ideal.cmpfTotal_def, hv, hv]
      unfold Ideal.cmp
      simp [CmpDirection.ordered]

/-- The position of a chosen row at each of its features. -/
theorem wide_apply (w : IVec S8x8 32) (b r : Fin 8) (d : Fin 32) : wide w (ValueIdx.ix3 b r d) = w (ValueIdx.ix2 b r) := by
  refine (broadcastInDim_apply _ _ _ _ (ValueIdx.ix3 b r (0 : Fin 1) : S8x8x1.Idx) fun a => ?_).trans
    (broadcastInDim_apply _ _ _ _ (ValueIdx.ix2 b r : S8x8.Idx) fun a => ?_)
  · match a with
    | ⟨0, _⟩ => rfl
    | ⟨1, _⟩ => rfl
    | ⟨2, _⟩ => rfl
  · match a with
    | ⟨0, _⟩ => rfl
    | ⟨1, _⟩ => rfl

/-- A position that is not negative is read as it is. -/
theorem wrapped_apply (W : IVec S8x8x32 32) (hW : ∀ i, (W i).toNat < 8) (i : S8x8x32x1.Idx) :
    wrapped W i = W (ValueIdx.ix3 (i 0) (i 1) (i 2)) := by
  unfold wrapped
  refine (shapeCast_apply _ _ _ (ValueIdx.ix3 (i 0) (i 1) (i 2) : S8x8x32.Idx) ?_).trans ?_
  · rw [Shape.rowMajor_val_three, Shape.rowMajor_val_four]
    have : (i 3).val < 1 := (i 3).isLt
    show ((i 0).val * 8 + (i 1).val) * 32 + (i 2).val = (((i 0).val * 8 + (i 1).val) * 32 + (i 2).val) * 1 + (i 3).val
    omega
  · have h := hW (ValueIdx.ix3 (i 0) (i 1) (i 2))
    have e : cmpi .slt W (broadcastInDim S8x8x32 ![] bcast_S_S8x8x32 (constantI S_ 32 0#32)) (ValueIdx.ix3 (i 0) (i 1) (i 2)) = 0#1 := by
      show IntOp.cmpi .slt (W (ValueIdx.ix3 (i 0) (i 1) (i 2))) (broadcastInDim S8x8x32 ![] bcast_S_S8x8x32 (constantI S_ 32 0#32) _) = 0#1
      rw [ValueIdx.broadcastInDim_scalar_apply]
      show BitVec.ofBool (BitVec.slt _ 0#32) = 0#1
      rw [show BitVec.slt (W (ValueIdx.ix3 (i 0) (i 1) (i 2))) 0#32 = false by
        simp only [BitVec.slt, decide_eq_false_iff_not, BitVec.toInt]
        simp only [BitVec.toNat_ofNat]
        omega]
      rfl
    unfold select
    rw [e]
    rfl

/-- The entry read at a position in range, one coordinate of the operand at a time. -/
theorem gather_apply (x : FVec Ideal S8x2048x32 .f32) (I : IVec S8x8x32x1 32) (b r : Fin 8) (d : Fin 32) (p : Fin 2048)
    (hI : I (ValueIdx.ix4 b r d (0 : Fin 1)) = BitVec.ofNat 32 p.val) :
    Host.gather gather_S8x2048x32_S8x8x32x1_S8x8x32_n_1_02_02_1_3_111 x I (ValueIdx.ix3 b r d) = x (ValueIdx.ix3 b p d) := by
  refine congrArg x (funext fun a => Fin.ext ?_)
  match a with
  | ⟨0, _⟩ => show 0 + b.val + 0 = b.val; omega
  | ⟨1, _⟩ =>
    have e : gather_S8x2048x32_S8x8x32x1_S8x8x32_n_1_02_02_1_3_111.siIdx (ValueIdx.ix3 b r d) ⟨0, by decide⟩
        = ValueIdx.ix4 b r d (0 : Fin 1) := funext fun a => by
      match a with
      | ⟨0, _⟩ => rfl
      | ⟨1, _⟩ => rfl
      | ⟨2, _⟩ => rfl
      | ⟨3, _⟩ => rfl
    show min (I (gather_S8x2048x32_S8x8x32x1_S8x8x32_n_1_02_02_1_3_111.siIdx (ValueIdx.ix3 b r d) ⟨0, _⟩)).toInt.toNat (2048 - 1) + 0 + 0 = p.val
    rw [e, hI]
    have hp := p.isLt
    rw [BitVec.toInt_eq_toNat_of_lt (by rw [BitVec.toNat_ofNat]; omega), BitVec.toNat_ofNat]
    omega
  | ⟨2, _⟩ => show 0 + d.val + 0 = d.val; omega

theorem andi_one {s : Shape} (a b : IVec s 1) (ha : ∀ i, a i = 1#1) (hb : ∀ i, b i = 1#1) (i : s.Idx) : andi a b i = 1#1 := by
  show IntOp.andi (a i) (b i) = 1#1
  rw [ha, hb]; rfl

/-- The rows read at positions in range. -/
theorem taken_apply (x : FVec Ideal S8x2048x32 .f32) (I : IVec S8x8x32x1 32) (b r : Fin 8) (d : Fin 32) (p : Fin 2048)
    (hI : ∀ i, (I i).toNat < 2048) (hp : I (ValueIdx.ix4 b r d (0 : Fin 1)) = BitVec.ofNat 32 p.val) :
    taken x I (ValueIdx.ix3 b r d) = x (ValueIdx.ix3 b p d) := by
  have low : ∀ i, cmpi .sge I (broadcastInDim S8x8x32x1 ![] bcast_S_S8x8x32x1 (constantI S_ 32 0#32)) i = 1#1 := fun i => by
    show IntOp.cmpi .sge (I i) (broadcastInDim S8x8x32x1 ![] bcast_S_S8x8x32x1 (constantI S_ 32 0#32) i) = 1#1
    rw [ValueIdx.broadcastInDim_scalar_apply]
    show BitVec.ofBool (BitVec.sle 0#32 (I i)) = 1#1
    have h := hI i
    rw [show BitVec.sle 0#32 (I i) = true by
      simp only [BitVec.sle, decide_eq_true_eq, BitVec.toInt, BitVec.toNat_ofNat]
      omega]
    rfl
  have high : ∀ i, cmpi .sle I (broadcastInDim S8x8x32x1 ![0, 1, 2, 3] bcast_S1x1x1x1_S8x8x32x1_0_1_2_3
      (broadcastInDim S1x1x1x1 ![3] bcast_S1_S1x1x1x1_3 (constantI S1 32 2047#32))) i = 1#1 := fun i => by
    show BitVec.ofBool (BitVec.sle (I i) 2047#32) = 1#1
    have h := hI i
    rw [show BitVec.sle (I i) 2047#32 = true by
      simp only [BitVec.sle, decide_eq_true_eq, BitVec.toInt, BitVec.toNat_ofNat]
      omega]
    rfl
  unfold taken select
  rw [Host.reduce_andi_one _ _ _ _ _ rfl (andi_one _ _ low high)]
  exact gather_apply x I b r d p hp

/-- Where the entries ranked are all equal the rows read are the first eight. -/
theorem chosen (x : FVec Ideal S8x2048x32 .f32) (v : FVec Ideal S8x2048 .f32) (c : EReal) (hv : ∀ i, v i = c)
    (b r : Fin 8) (d : Fin 32) :
    taken x (wrapped (wide (top v))) (ValueIdx.ix3 b r d) = x (ValueIdx.ix3 b (⟨r.val, by omega⟩ : Fin 2048) d) := by
  have hw : ∀ (b r : Fin 8) (d : Fin 32), wide (top v) (ValueIdx.ix3 b r d) = BitVec.ofNat 32 r.val := fun b r d =>
    (wide_apply _ b r d).trans (top_const v c hv b r)
  have h8 : ∀ i, (wide (top v) i).toNat < 8 := fun i => by
    have e : i = ValueIdx.ix3 (i 0) (i 1) (i 2) := funext fun a => by
      match a with
      | ⟨0, _⟩ => rfl
      | ⟨1, _⟩ => rfl
      | ⟨2, _⟩ => rfl
    have h : (i 1).val < 8 := (i 1).isLt
    have hn : (wide (top v) i).toNat = (BitVec.ofNat 32 (i 1).val).toNat :=
      congrArg BitVec.toNat ((congrArg (wide (top v)) e).trans (hw (i 0) (i 1) (i 2)))
    rw [hn, BitVec.toNat_ofNat]
    omega
  refine taken_apply _ _ b r d _ (fun i => ?_) ?_
  · rw [wrapped_apply _ h8]
    exact (h8 _).trans (by decide)
  · exact (wrapped_apply _ h8 _).trans (hw b r d)

end Cert.Proof.Ref

end
-- ==== Proof.Same.lean ====
/-
  Both programs' results where no flow row is zero: the chosen rows are the first eight of
  each batch element, on either side.
-/
module

public import proofs.«01_k».proof.Proof.Selection
public import proofs.«01_k».proof.Proof.RefMean
public import proofs.«01_k».proof.Proof.RefTake
public import proofs.«01_k».proof.Proof.Run
public import proofs.«01_k».proof.Pre_nonzero_rows
public import proofs.«01_k».proof.Proof.Gen.Pre_nonzero_rows

@[expose] public section

noncomputable section

namespace Cert.Proof.Same

open Cert.KernelIdeal Cert.KernelIdeal.Gen
open Idealize.ShloMosaic

/-- The array of the first eight rows of each batch element. -/
def firstRows (x : FVec Ideal S8x2048x32 .f32) : FVec Ideal S8x8x32 .f32 :=
  fun i => x (ValueIdx.ix3 (i 0) (⟨(i 1).val, Nat.lt_trans (i 1).isLt (by decide)⟩ : Fin 2048) (i 2))

/-- A batch element of a good array is good. -/
theorem batch_good (x : FVec Ideal S8x2048x32 .f32) (h : Ref.Good x) (b : Fin 8) : Scores.Good (Run.batch x b) :=
  fun j => h b j

/-- The row a word below eight names. -/
theorem row_first (x : FVec Ideal S8x2048x32 .f32) (b r : Fin 8) (d : Fin 32) (w : BitVec 32) (hw : w = BitVec.ofNat 32 r.val) :
    Rows.rowAt (Run.batch x b) w d = x (ValueIdx.ix3 b (⟨r.val, Nat.lt_trans r.isLt (by decide)⟩ : Fin 2048) d) := by
  subst hw
  have h8 := r.isLt
  refine congrArg x (funext fun a => Fin.ext ?_)
  match a with
  | ⟨0, _⟩ => rfl
  | ⟨1, _⟩ =>
    show (BitVec.ofNat 32 r.val).toNat % 2048 = r.val
    rw [BitVec.toNat_ofNat]; omega
  | ⟨2, _⟩ => rfl

/-- The kernel's first result. -/
theorem kernel0 (tok flow : FVec Ideal S8x2048x32 .f32) (h : Ref.Good flow) : Run.intraOut tok flow = firstRows tok :=
  funext fun i => row_first tok (i 0) (i 1) (i 2) _ (Selection.loAt_eq _ (batch_good flow h (i 0)) (i 1))

/-- The kernel's second result. -/
theorem kernel1 (flow tok sup : FVec Ideal S8x2048x32 .f32) (h : Ref.Good flow) (h' : Ref.Good sup) :
    Run.interOut flow tok sup = firstRows tok :=
  funext fun i => row_first tok (i 0) (i 1) (i 2) _
    (Selection.hiAt_eq _ _ (batch_good flow h (i 0)) (batch_good sup h' (i 0)) (i 1))

/-- The reference's selection at an array of equal entries. -/
theorem chosen_eq (x : FVec Ideal S8x2048x32 .f32) (v : FVec Ideal Cert.ReferenceIdeal.S8x2048 .f32) (c : EReal) (hv : ∀ i, v i = c) :
    Ref.taken x (Ref.wrapped (Ref.wide (Ref.top v))) = firstRows x := by
  funext i
  have e : i = ValueIdx.ix3 (i 0) (i 1) (i 2) := Ref.eq_ix3 i
  exact (congrArg (Ref.taken x (Ref.wrapped (Ref.wide (Ref.top v)))) e).trans (Ref.chosen x v c hv (i 0) (i 1) (i 2))

/-- The reference's first result. -/
theorem reference0 (tok flow : FVec Ideal S8x2048x32 .f32) (h : Ref.Good flow) :
    Ref.taken tok (Ref.wrapped (Ref.wide (Ref.top (Host.negf (Ref.softmean (Ref.scores flow flow)))))) = firstRows tok :=
  chosen_eq tok _ (-Ref.mean) fun i => congrArg (fun z : EReal => -z) (Ref.softmean_real _ (Ref.scores_real flow flow h h) i)

/-- The reference's second result. -/
theorem reference1 (flow tok sup : FVec Ideal S8x2048x32 .f32) (h : Ref.Good flow) (h' : Ref.Good sup) :
    Ref.taken tok (Ref.wrapped (Ref.wide (Ref.top (Ref.softmean (Ref.scores sup flow))))) = firstRows tok :=
  chosen_eq tok _ Ref.mean (Ref.softmean_real _ (Ref.scores_real sup flow h' h))

theorem positive (x : Ideal .f32) : FloatOps.cmpf (F := Ideal) .ogt x (FloatOps.ofBits .f32 0x00000000#32) = BitVec.ofBool (decide ((0 : EReal) < x)) := by
  rw [← Ref.zero_word]; rfl

/-- The precondition read: the rows of both flow arrays have positive squared lengths. -/
theorem good_of_pre (a0 a1 a2 a3 : FVec Ideal S8x2048x32 .f32)
    (h : Cert.Pre_nonzero_rows.fn (F := Ideal) a0 a1 a2 a3 = fun _ => 1#1) : Ref.Good a1 ∧ Ref.Good a3 := by
  have andi_ofBool (p q : Bool) : IntOp.andi (BitVec.ofBool p) (BitVec.ofBool q) = BitVec.ofBool (p && q) := by
    cases p <;> cases q <;> decide
  have one (p : Bool) : (BitVec.ofBool p = 1#1) ↔ p = true := by cases p <;> decide
  have key : ∀ (b : Fin 8) (j : Fin 2048),
      0 < ∑ d : Fin 32, a1 (ValueIdx.ix3 b j d) * a1 (ValueIdx.ix3 b j d)
      ∧ 0 < ∑ d : Fin 32, a3 (ValueIdx.ix3 b j d) * a3 (ValueIdx.ix3 b j d) :=
    fun b j => by
      have e := congrFun h (ValueIdx.ix2 b j)
      obtain ⟨p, hp⟩ : ∃ p, Host.reduceAdd (mulf a1 a1) (constant (F := Ideal) Cert.Pre_nonzero_rows.S_ .f32 0x00000000#32)
          Cert.Pre_nonzero_rows.Facts.reducesTo_S8x2048x32_S8x2048_d2 Cert.Pre_nonzero_rows.Facts.h_S_ = p := ⟨_, rfl⟩
      obtain ⟨q, hq⟩ : ∃ q, Host.reduceAdd (mulf a3 a3) (constant (F := Ideal) Cert.Pre_nonzero_rows.S_ .f32 0x00000000#32)
          Cert.Pre_nonzero_rows.Facts.reducesTo_S8x2048x32_S8x2048_d2 Cert.Pre_nonzero_rows.Facts.h_S_ = q := ⟨_, rfl⟩
      have hp' := (congrFun hp (ValueIdx.ix2 b j)).symm.trans (Ref.length_apply a1 b j)
      have hq' := (congrFun hq (ValueIdx.ix2 b j)).symm.trans (Ref.length_apply a3 b j)
      unfold Cert.Pre_nonzero_rows.fn at e
      simp only [hp, hq, andi, cmpf, broadcastInDim, constant] at e
      rw [positive, positive, andi_ofBool, one] at e
      simp only [Bool.and_eq_true, decide_eq_true_eq] at e
      rw [← hp', ← hq']
      exact e
  exact ⟨fun b j => (key b j).1, fun b j => (key b j).2⟩

end Cert.Proof.Same

end
-- ==== Proof.lean ====
/-
  The certificate: the frames of the kernel and of the reference, and the equality of their two results over exact arithmetic.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Gen.Pre_nonzero_rows
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to the end, its arguments unchanged and its counters at zero. -/
theorem frame_kernel : Cert.quiescent_KernelIdeal := fun m g _ => Run.quiescent m g

/-- The reference runs to the end, its arguments unchanged; it declares no counter. -/
theorem frame_reference : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- Under the precondition the two programs leave the same two arrays. -/
theorem algebraic : Cert.algebraic_KernelIdeal_ReferenceIdeal_pre_nonzero_rows := fun m g m' g' hpre hargs => by
  have hg : ∀ c : Dev Cert.KernelIdeal.nD,
      Ref.Good (m ((c.tc : Thread Cert.KernelIdeal.nD Cert.KernelIdeal.τ).loc Cert.KernelIdeal.main_arg1))
      ∧ Ref.Good (m ((c.tc : Thread Cert.KernelIdeal.nD Cert.KernelIdeal.τ).loc Cert.KernelIdeal.main_arg3)) :=
    fun c => Same.good_of_pre _ _ _ _ (hpre c)
  refine ⟨fun c => Same.firstRows (m ((c.tc : Thread Cert.KernelIdeal.nD Cert.KernelIdeal.τ).loc Cert.KernelIdeal.main_arg0)),
    fun c => Same.firstRows (m ((c.tc : Thread Cert.KernelIdeal.nD Cert.KernelIdeal.τ).loc Cert.KernelIdeal.main_arg2)), ?_, ?_⟩
  · refine (θ_run _ _ _).mono (fun r h c => ⟨?_, ?_, h.2 c⟩) (θ_run_and (Run.run m g) (Run.unchanged m g))
    · exact (h.1 c).1.trans (Same.kernel0 _ _ (hg c).1)
    · exact (h.1 c).2.trans (Same.kernel1 _ _ _ (hg c).1 (hg c).2)
  · refine (θ_run _ _ _).mono (fun r h c => ⟨?_, ?_, (h c).2.2⟩) (Cert.ReferenceIdeal.Value.run (F := Ideal) m' g')
    · rw [(h c).1, Ref.out0_eq, (hargs c).1, (hargs c).2.1]
      exact Same.reference0 _ _ (hg c).1
    · rw [(h c).2.1, Ref.out1_eq, (hargs c).2.1, (hargs c).2.2.1, (hargs c).2.2.2]
      exact Same.reference1 _ _ _ (hg c).1 (hg c).2

/-- The certificate's claim: the printed programs' side facts, the frames, and the equality of the results. -/
theorem claim : Cert.Claim :=
  ⟨Cert.KernelIdeal.Gen.facts, Cert.ReferenceIdeal.Gen.facts, Cert.Pre_nonzero_rows.Gen.facts,
    frame_kernel, fun m g _ => frame_kernel m g trivial, frame_reference, fun m g _ => frame_reference m g trivial, algebraic⟩

end Cert.Proof

end
